-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsReferenceIdeal (m : (ℓ : Loc Cert.ExpertsReferenceIdeal.nD Cert.ExpertsReferenceIdeal.τ Cert.ExpertsReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v29)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v29) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v57) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Experts (hExperts := hExperts)
    ∧ quiescent_ExpertsIdeal (hExpertsIdeal := hExpertsIdeal)
    ∧ quiescent_ExpertsReferenceIdeal (hExpertsReferenceIdeal := hExpertsReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Experts_ExpertsIdeal
    ∧ algebraic_ExpertsIdeal_ExpertsReferenceIdeal (hExpertsIdeal := hExpertsIdeal) (hExpertsReferenceIdeal := hExpertsReferenceIdeal)
-- ==== Pre_finite.lean ====
abbrev S32 : Shape := ⟨1, ![32]⟩
abbrev S4x4096x512 : Shape := ⟨3, ![4, 4096, 512]⟩
abbrev S4x256x512 : Shape := ⟨3, ![4, 256, 512]⟩
abbrev S64 : Shape := ⟨1, ![64]⟩
abbrev S4x8448x512 : Shape := ⟨3, ![4, 8448, 512]⟩
abbrev S_ : Shape := ⟨0, ![]⟩

class Facts : Prop where
  concatenates_S4x4096x512_S4x4096x512_S4x256x512_S4x8448x512_d1 : Shape.Concatenates [S4x4096x512, S4x4096x512, S4x256x512] S4x8448x512 1
  bcast_S_S4x8448x512 : S_.BroadcastsInDim S4x8448x512 (![] : Fin 0 → Fin S4x8448x512.rank)

variable [Facts]

def fn {F : FTy → Type} [FloatOps F] (main_arg0 : FVec F S32 .f32) (main_arg1 : FVec F S32 .f32) (main_arg2 : FVec F S32 .f32) (main_arg3 : FVec F S32 .f32) (main_arg4 : FVec F S4x4096x512 .f32) (main_arg5 : FVec F S4x256x512 .f32) (main_arg6 : FVec F S4x4096x512 .f32) (main_arg7 : FVec F S4x256x512 .f32) (main_arg8 : FVec F S4x4096x512 .f32) (main_arg9 : FVec F S4x256x512 .f32) (main_arg10 : FVec F S64 .f32) : IVec S4x8448x512 1 :=
  let main_v0 : FVec F S4x8448x512 .f32 := concatenate S4x8448x512 1 [⟨S4x4096x512, main_arg4⟩, ⟨S4x4096x512, main_arg6⟩, ⟨S4x256x512, main_arg7⟩] concatenates_S4x4096x512_S4x4096x512_S4x256x512_S4x8448x512_d1
  let main_cst : FVec F S_ .f32 := constant S_ .f32 0xFF800000#32
  let main_v1 : FVec F S4x8448x512 .f32 := broadcastInDim S4x8448x512 ![] bcast_S_S4x8448x512 main_cst
  let main_v2 : IVec S4x8448x512 1 := cmpf .ogt main_v0 main_v1
  let main_cst_0 : FVec F S_ .f32 := constant S_ .f32 0x7F800000#32
  let main_v3 : FVec F S4x8448x512 .f32 := broadcastInDim S4x8448x512 ![] bcast_S_S4x8448x512 main_cst_0
  let main_v4 : IVec S4x8448x512 1 := cmpf .olt main_v0 main_v3
  let main_v5 : IVec S4x8448x512 1 := andi main_v2 main_v4
  main_v5
-- ==== Kernel.lean ====
abbrev S32 : Shape := ⟨1, ![32]⟩
abbrev S4x4096x512 : Shape := ⟨3, ![4, 4096, 512]⟩
abbrev S4x256x512 : Shape := ⟨3, ![4, 256, 512]⟩
abbrev S64 : Shape := ⟨1, ![64]⟩
abbrev S_ : Shape := ⟨0, ![]⟩
abbrev S1 : Shape := ⟨1, ![1]⟩
abbrev S16384x512 : Shape := ⟨2, ![16384, 512]⟩
abbrev S1024x512 : Shape := ⟨2, ![1024, 512]⟩
abbrev S17408x512 : Shape := ⟨2, ![17408, 512]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S256x128 : Shape := ⟨2, ![256, 128]⟩
abbrev S4096x128 : Shape := ⟨2, ![4096, 128]⟩
abbrev S256x4096 : Shape := ⟨2, ![256, 4096]⟩
abbrev S256x256 : Shape := ⟨2, ![256, 256]⟩
abbrev S256 : Shape := ⟨1, ![256]⟩
abbrev S256x1 : Shape := ⟨2, ![256, 1]⟩

abbrev nBuf : Space → Nat
  | .hbm => 49
  | .vmem => 13
  | .smem => 1
  | _ => 0

abbrev bufTy : (tb : Table) → Fin (tcTables nBuf tb) → BufTy
  | .hbm, ⟨0, _⟩ => ⟨S32, .f32⟩
  | .hbm, ⟨1, _⟩ => ⟨S32, .f32⟩
  | .hbm, ⟨2, _⟩ => ⟨S32, .f32⟩
  | .hbm, ⟨3, _⟩ => ⟨S32, .f32⟩
  | .hbm, ⟨4, _⟩ => ⟨S4x4096x512, .f32⟩
  | .hbm, ⟨5, _⟩ => ⟨S4x256x512, .f32⟩
  | .hbm, ⟨6, _⟩ => ⟨S4x4096x512, .f32⟩
  | .hbm, ⟨7, _⟩ => ⟨S4x256x512, .f32⟩
  | .hbm, ⟨8, _⟩ => ⟨S4x4096x512, .f32⟩
  | .hbm, ⟨9, _⟩ => ⟨S4x256x512, .f32⟩
  | .hbm, ⟨10, _⟩ => ⟨S64, .f32⟩
  | .hbm, ⟨11, _⟩ => ⟨S32, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S32, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S16384x512, .f32⟩
  | .hbm, ⟨31, _⟩ => ⟨S1024x512, .f32⟩
  | .hbm, ⟨32, _⟩ => ⟨S17408x512, .f32⟩
  | .hbm, ⟨33, _⟩ => ⟨S17408x512, .f32⟩
  | .hbm, ⟨34, _⟩ => ⟨S17408x512, .f32⟩
  | .hbm, ⟨35, _⟩ => ⟨S17408x512, .bf16⟩
  | .hbm, ⟨36, _⟩ => ⟨S16384x512, .f32⟩
  | .hbm, ⟨37, _⟩ => ⟨S1024x512, .f32⟩
  | .hbm, ⟨38, _⟩ => ⟨S17408x512, .f32⟩
  | .hbm, ⟨39, _⟩ => ⟨S17408x512, .bf16⟩
  | .hbm, ⟨40, _⟩ => ⟨S16384x512, .f32⟩
  | .hbm, ⟨41, _⟩ => ⟨S1024x512, .f32⟩
  | .hbm, ⟨42, _⟩ => ⟨S17408x512, .f32⟩
  | .hbm, ⟨43, _⟩ => ⟨S17408x512, .bf16⟩
  | .hbm, ⟨44, _⟩ => ⟨S1x64, .f32⟩
  | .hbm, ⟨45, _⟩ => ⟨S2x64, .f32⟩
  | .hbm, ⟨46, _⟩ => ⟨S128, .f32⟩
  | .hbm, ⟨47, _⟩ => ⟨S1x128, .f32⟩
  | .hbm, ⟨48, _⟩ => ⟨S16384x512, .bf16⟩
  | .local _ .vmem, ⟨0, _⟩ => ⟨S256x128, .bf16⟩
  | .local _ .vmem, ⟨1, _⟩ => ⟨S256x128, .bf16⟩
  | .local _ .vmem, ⟨2, _⟩ => ⟨S4096x128, .bf16⟩
  | .local _ .vmem, ⟨3, _⟩ => ⟨S4096x128, .bf16⟩
  | .local _ .vmem, ⟨4, _⟩ => ⟨S256x128, .bf16⟩
  | .local _ .vmem, ⟨5, _⟩ => ⟨S256x128, .bf16⟩
  | .local _ .vmem, ⟨6, _⟩ => ⟨S4096x128, .bf16⟩
  | .local _ .vmem, ⟨7, _⟩ => ⟨S4096x128, .bf16⟩
  | .local _ .vmem, ⟨8, _⟩ => ⟨S256x128, .bf16⟩
  | .local _ .vmem, ⟨9, _⟩ => ⟨S256x128, .bf16⟩
  | .local _ .vmem, ⟨10, _⟩ => ⟨S1x128, .f32⟩
  | .local _ .vmem, ⟨11, _⟩ => ⟨S256x128, .bf16⟩
  | .local _ .vmem, ⟨12, _⟩ => ⟨S256x128, .bf16⟩
  | .local _ .smem, ⟨0, _⟩ => ⟨S1, .f32⟩
  | _, _ => ⟨S32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_v11 : Ref sig .tc := ⟨.hbm, 27, rfl⟩
abbrev main_cst_4 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c0_i32 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c0_i32 : BitVec 32 := 0#32
  ![v0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S32 : Shape := ⟨1, ![32]⟩
abbrev S4x4096x512 : Shape := ⟨3, ![4, 4096, 512]⟩
abbrev S4x256x512 : Shape := ⟨3, ![4, 256, 512]⟩
abbrev S64 : Shape := ⟨1, ![64]⟩
abbrev S_ : Shape := ⟨0, ![]⟩
abbrev S4x4096x8x2x32 : Shape := ⟨5, ![4, 4096, 8, 2, 32]⟩
abbrev S2x4x8x4096x32 : Shape := ⟨5, ![2, 4, 8, 4096, 32]⟩
abbrev S4x256x8x2x32 : Shape := ⟨5, ![4, 256, 8, 2, 32]⟩
abbrev S2x4x8x256x32 : Shape := ⟨5, ![2, 4, 8, 256, 32]⟩
abbrev S2x4x8x4352x32 : Shape := ⟨5, ![2, 4, 8, 4352, 32]⟩
abbrev S4x4096x8x64 : Shape := ⟨4, ![4, 4096, 8, 64]⟩
abbrev S4x8x4096x64 : Shape := ⟨4, ![4, 8, 4096, 64]⟩
abbrev S4x256x8x64 : Shape := ⟨4, ![4, 256, 8, 64]⟩
abbrev S4x8x256x64 : Shape := ⟨4, ![4, 8, 256, 64]⟩
abbrev S4x8x4352x64 : Shape := ⟨4, ![4, 8, 4352, 64]⟩
abbrev S2x4x8x4096x4352 : Shape := ⟨5, ![2, 4, 8, 4096, 4352]⟩
abbrev S2x4x8x4096 : Shape := ⟨4, ![2, 4, 8, 4096]⟩
abbrev S2x4x8x4096x1 : Shape := ⟨5, ![2, 4, 8, 4096, 1]⟩
abbrev S1x4x8x4096x4352 : Shape := ⟨5, ![1, 4, 8, 4096, 4352]⟩
abbrev S4x8x4096x4352 : Shape := ⟨4, ![4, 8, 4096, 4352]⟩
abbrev S4x8x4096 : Shape := ⟨3, ![4, 8, 4096]⟩
abbrev S4x8x4096x1 : Shape := ⟨4, ![4, 8, 4096, 1]⟩
abbrev S1x1x1x64 : Shape := ⟨4, ![1, 1, 1, 64]⟩
abbrev S16384x512 : Shape := ⟨2, ![16384, 512]⟩

abbrev nBuf : Space → Nat
  | .hbm => 83
  | .vmem => 0
  | .smem => 0
  | _ => 0

abbrev bufTy : (tb : Table) → Fin (tcTables nBuf tb) → BufTy
  | .hbm, ⟨0, _⟩ => ⟨S32, .f32⟩
  | .hbm, ⟨1, _⟩ => ⟨S32, .f32⟩
  | .hbm, ⟨2, _⟩ => ⟨S32, .f32⟩
  | .hbm, ⟨3, _⟩ => ⟨S32, .f32⟩
  | .hbm, ⟨4, _⟩ => ⟨S4x4096x512, .f32⟩
  | .hbm, ⟨5, _⟩ => ⟨S4x256x512, .f32⟩
  | .hbm, ⟨6, _⟩ => ⟨S4x4096x512, .f32⟩
  | .hbm, ⟨7, _⟩ => ⟨S4x256x512, .f32⟩
  | .hbm, ⟨8, _⟩ => ⟨S4x4096x512, .f32⟩
  | .hbm, ⟨9, _⟩ => ⟨S4x256x512, .f32⟩
  | .hbm, ⟨10, _⟩ => ⟨S64, .f32⟩
  | .hbm, ⟨11, _⟩ => ⟨S32, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S32, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S4x4096x8x2x32, .f32⟩
  | .hbm, ⟨23, _⟩ => ⟨S2x4x8x4096x32, .f32⟩
  | .hbm, ⟨24, _⟩ => ⟨S4x4096x8x2x32, .f32⟩
  | .hbm, ⟨25, _⟩ => ⟨S2x4x8x4096x32, .f32⟩
  | .hbm, ⟨26, _⟩ => ⟨S4x256x8x2x32, .f32⟩
  | .hbm, ⟨27, _⟩ => ⟨S2x4x8x256x32, .f32⟩
  | .hbm, ⟨28, _⟩ => ⟨S2x4x8x4352x32, .f32⟩
  | .hbm, ⟨29, _⟩ => ⟨S4x4096x8x64, .f32⟩
  | .hbm, ⟨30, _⟩ => ⟨S4x8x4096x64, .f32⟩
  | .hbm, ⟨31, _⟩ => ⟨S4x256x8x64, .f32⟩
  | .hbm, ⟨32, _⟩ => ⟨S4x8x256x64, .f32⟩
  | .hbm, ⟨33, _⟩ => ⟨S4x8x4352x64, .f32⟩
  | .hbm, ⟨34, _⟩ => ⟨S2x4x8x4096x4352, .f32⟩
  | .hbm, ⟨35, _⟩ => ⟨S_, .f32⟩
  | .hbm, ⟨36, _⟩ => ⟨S_, .f32⟩
  | .hbm, ⟨37, _⟩ => ⟨S2x4x8x4096x4352, .f32⟩
  | .hbm, ⟨38, _⟩ => ⟨S2x4x8x4096x4352, .f32⟩
  | .hbm, ⟨39, _⟩ => ⟨S_, .f32⟩
  | .hbm, ⟨40, _⟩ => ⟨S2x4x8x4096, .f32⟩
  | .hbm, ⟨41, _⟩ => ⟨S_, .f32⟩
  | .hbm, ⟨42, _⟩ => ⟨S2x4x8x4096, .f32⟩
  | .hbm, ⟨43, _⟩ => ⟨S2x4x8x4096, .f32⟩
  | .hbm, ⟨44, _⟩ => ⟨S2x4x8x4096x1, .f32⟩
  | .hbm, ⟨45, _⟩ => ⟨S2x4x8x4096x4352, .f32⟩
  | .hbm, ⟨46, _⟩ => ⟨S2x4x8x4096x4352, .f32⟩
  | .hbm, ⟨47, _⟩ => ⟨S2x4x8x4096x4352, .f32⟩
  | .hbm, ⟨48, _⟩ => ⟨S_, .f32⟩
  | .hbm, ⟨49, _⟩ => ⟨S2x4x8x4096, .f32⟩
  | .hbm, ⟨50, _⟩ => ⟨S2x4x8x4096x1, .f32⟩
  | .hbm, ⟨51, _⟩ => ⟨S2x4x8x4096x4352, .f32⟩
  | .hbm, ⟨52, _⟩ => ⟨S2x4x8x4096x4352, .f32⟩
  | .hbm, ⟨53, _⟩ => ⟨S1x4x8x4096x4352, .f32⟩
  | .hbm, ⟨54, _⟩ => ⟨S4x8x4096x4352, .f32⟩
  | .hbm, ⟨55, _⟩ => ⟨S1x4x8x4096x4352, .f32⟩
  | .hbm, ⟨56, _⟩ => ⟨S4x8x4096x4352, .f32⟩
  | .hbm, ⟨57, _⟩ => ⟨S4x8x4096x4352, .f32⟩
  | .hbm, ⟨58, _⟩ => ⟨S4x8x4096x4352, .f32⟩
  | .hbm, ⟨59, _⟩ => ⟨S4x8x4096x4352, .f32⟩
  | .hbm, ⟨60, _⟩ => ⟨S4x8x4096x64, .f32⟩
  | .hbm, ⟨61, _⟩ => ⟨S4x8x4096x64, .f32⟩
  | .hbm, ⟨62, _⟩ => ⟨S_, .f32⟩
  | .hbm, ⟨63, _⟩ => ⟨S4x8x4096, .f32⟩
  | .hbm, ⟨64, _⟩ => ⟨S4x8x4096x1, .f32⟩
  | .hbm, ⟨65, _⟩ => ⟨S_, .f32⟩
  | .hbm, ⟨66, _⟩ => ⟨S4x8x4096x1, .f32⟩
  | .hbm, ⟨67, _⟩ => ⟨S4x8x4096x1, .f32⟩
  | .hbm, ⟨68, _⟩ => ⟨S_, .f32⟩
  | .hbm, ⟨69, _⟩ => ⟨S4x8x4096x1, .f32⟩
  | .hbm, ⟨70, _⟩ => ⟨S4x8x4096x1, .f32⟩
  | .hbm, ⟨71, _⟩ => ⟨S4x8x4096x1, .f32⟩
  | .hbm, ⟨72, _⟩ => ⟨S4x8x4096x64, .f32⟩
  | .hbm, ⟨73, _⟩ => ⟨S4x8x4096x64, .f32⟩
  | .hbm, ⟨74, _⟩ => ⟨S1x1x1x64, .f32⟩
  | .hbm, ⟨75, _⟩ => ⟨S4x8x4096x64, .f32⟩
  | .hbm, ⟨76, _⟩ => ⟨S4x8x4096x64, .f32⟩
  | .hbm, ⟨77, _⟩ => ⟨S_, .f32⟩
  | .hbm, ⟨78, _⟩ => ⟨S4x8x4096x64, .f32⟩
  | .hbm, ⟨79, _⟩ => ⟨S4x8x4096x64, .f32⟩
  | .hbm, ⟨80, _⟩ => ⟨S4x4096x8x64, .f32⟩
  | .hbm, ⟨81, _⟩ => ⟨S16384x512, .f32⟩
  | .hbm, ⟨82, _⟩ => ⟨S16384x512, .bf16⟩
  | _, _ => ⟨S32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]
-- ==== Experts.lean ====
abbrev S64x1 : Shape := ⟨2, ![64, 1]⟩
abbrev S155648x1024 : Shape := ⟨2, ![155648, 1024]⟩
abbrev S64x1024x256 : Shape := ⟨3, ![64, 1024, 256]⟩
abbrev S64x256x1024 : Shape := ⟨3, ![64, 256, 1024]⟩
abbrev S64 : Shape := ⟨1, ![64]⟩
abbrev S_ : Shape := ⟨0, ![]⟩
abbrev S608 : Shape := ⟨1, ![608]⟩
abbrev S1x64 : Shape := ⟨2, ![1, 64]⟩
abbrev S608x1 : Shape := ⟨2, ![608, 1]⟩
abbrev S608x64 : Shape := ⟨2, ![608, 64]⟩
abbrev S1 : Shape := ⟨1, ![1]⟩
abbrev S256x1024 : Shape := ⟨2, ![256, 1024]⟩
abbrev S1x1024x256 : Shape := ⟨3, ![1, 1024, 256]⟩
abbrev S1x256x1024 : Shape := ⟨3, ![1, 256, 1024]⟩
abbrev S1024x256 : Shape := ⟨2, ![1024, 256]⟩
abbrev S256x256 : Shape := ⟨2, ![256, 256]⟩

abbrev nBuf : Space → Nat
  | .hbm => 70
  | .vmem => 10
  | .smem => 2
  | _ => 0

abbrev bufTy : (tb : Table) → Fin (tcTables nBuf tb) → BufTy
  | .hbm, ⟨0, _⟩ => ⟨S64x1, .f32⟩
  | .hbm, ⟨1, _⟩ => ⟨S155648x1024, .f32⟩
  | .hbm, ⟨2, _⟩ => ⟨S64x1024x256, .f32⟩
  | .hbm, ⟨3, _⟩ => ⟨S64x1024x256, .f32⟩
  | .hbm, ⟨4, _⟩ => ⟨S64x256x1024, .f32⟩
  | .hbm, ⟨5, _⟩ => ⟨S64, .f32⟩
  | .hbm, ⟨6, _⟩ => ⟨S64, .i32⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S_, .i32⟩
  | .hbm, ⟨11, _⟩ => ⟨S64, .i32⟩
  | .hbm, ⟨12, _⟩ => ⟨S64, .i32⟩
  | .hbm, ⟨13, _⟩ => ⟨S_, .i32⟩
  | .hbm, ⟨14, _⟩ => ⟨S_, .i32⟩
  | .hbm, ⟨15, _⟩ => ⟨S64, .i32⟩
  | .hbm, ⟨16, _⟩ => ⟨S64, .i32⟩
  | .hbm, ⟨17, _⟩ => ⟨S64, .i32⟩
  | .hbm, ⟨18, _⟩ => ⟨S_, .i32⟩
  | .hbm, ⟨19, _⟩ => ⟨S64, .i32⟩
  | .hbm, ⟨20, _⟩ => ⟨S64, .i1⟩
  | .hbm, ⟨21, _⟩ => ⟨S64, .i32⟩
  | .hbm, ⟨22, _⟩ => ⟨S64, .i32⟩
  | .hbm, ⟨23, _⟩ => ⟨S_, .i32⟩
  | .hbm, ⟨24, _⟩ => ⟨S64, .i32⟩
  | .hbm, ⟨25, _⟩ => ⟨S64, .i1⟩
  | .hbm, ⟨26, _⟩ => ⟨S64, .i1⟩
  | .hbm, ⟨27, _⟩ => ⟨S_, .i32⟩
  | .hbm, ⟨28, _⟩ => ⟨S64, .i32⟩
  | .hbm, ⟨29, _⟩ => ⟨S64, .i32⟩
  | .hbm, ⟨30, _⟩ => ⟨S64, .i32⟩
  | .hbm, ⟨31, _⟩ => ⟨S_, .i32⟩
  | .hbm, ⟨32, _⟩ => ⟨S64, .i32⟩
  | .hbm, ⟨33, _⟩ => ⟨S64, .i32⟩
  | .hbm, ⟨34, _⟩ => ⟨S_, .i32⟩
  | .hbm, ⟨35, _⟩ => ⟨S_, .i32⟩
  | .hbm, ⟨36, _⟩ => ⟨S64, .i32⟩
  | .hbm, ⟨37, _⟩ => ⟨S608, .i32⟩
  | .hbm, ⟨38, _⟩ => ⟨S_, .i32⟩
  | .hbm, ⟨39, _⟩ => ⟨S608, .i32⟩
  | .hbm, ⟨40, _⟩ => ⟨S608, .i32⟩
  | .hbm, ⟨41, _⟩ => ⟨S1x64, .i32⟩
  | .hbm, ⟨42, _⟩ => ⟨S608x1, .i32⟩
  | .hbm, ⟨43, _⟩ => ⟨S608x64, .i32⟩
  | .hbm, ⟨44, _⟩ => ⟨S608x64, .i32⟩
  | .hbm, ⟨45, _⟩ => ⟨S608x64, .i1⟩
  | .hbm, ⟨46, _⟩ => ⟨S608x64, .i32⟩
  | .hbm, ⟨47, _⟩ => ⟨S_, .i32⟩
  | .hbm, ⟨48, _⟩ => ⟨S608, .i32⟩
  | .hbm, ⟨49, _⟩ => ⟨S_, .i32⟩
  | .hbm, ⟨50, _⟩ => ⟨S608, .i32⟩
  | .hbm, ⟨51, _⟩ => ⟨S1, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i1⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i1⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S64x1024x256, .bf16⟩
  | .hbm, ⟨67, _⟩ => ⟨S64x1024x256, .bf16⟩
  | .hbm, ⟨68, _⟩ => ⟨S64x256x1024, .bf16⟩
  | .hbm, ⟨69, _⟩ => ⟨S155648x1024, .f32⟩
  | .local _ .vmem, ⟨0, _⟩ => ⟨S256x1024, .f32⟩
  | .local _ .vmem, ⟨1, _⟩ => ⟨S256x1024, .f32⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x256x1024, .bf16⟩
  | .local _ .vmem, ⟨7, _⟩ => ⟨S1x256x1024, .bf16⟩
  | .local _ .vmem, ⟨8, _⟩ => ⟨S256x1024, .f32⟩
  | .local _ .vmem, ⟨9, _⟩ => ⟨S256x1024, .f32⟩
  | .local _ .smem, ⟨0, _⟩ => ⟨S608, .i32⟩
  | .local _ .smem, ⟨1, _⟩ => ⟨S1, .i32⟩
  | _, _ => ⟨S64x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v6 : Ref sig .tc := ⟨.hbm, 30, rfl⟩
abbrev main_c_2 : Ref sig .tc := ⟨.hbm, 31, rfl⟩
abbrev main_v7 : Ref sig .tc := ⟨.hbm, 32, rfl⟩
abbrev main_v8 : Ref sig .tc := ⟨.hbm, 33, rfl⟩
abbrev main_call1_call0_c : Ref sig .tc := ⟨.hbm, 34, rfl⟩
abbrev main_call1_call0_v0 : Ref sig .tc := ⟨.hbm, 35, rfl⟩
abbrev main_v9 : Ref sig .tc := ⟨.hbm, 36, rfl⟩
abbrev main_v10 : Ref sig .tc := ⟨.hbm, 37, rfl⟩
abbrev main_c_3 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_c_4 : Ref sig .tc := ⟨.hbm, 47, rfl⟩
abbrev main_v19 : Ref sig .tc := ⟨.hbm, 48, rfl⟩
abbrev main_c_5 : Ref sig .tc := ⟨.hbm, 49, rfl⟩
abbrev main_v20 : Ref sig .tc := ⟨.hbm, 50, rfl⟩
abbrev main_v22 : Ref sig .tc := ⟨.hbm, 51, rfl⟩
abbrev main_v23 : Ref sig .tc := ⟨.hbm, 52, rfl⟩
abbrev main_c_6 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_c : Ref sig .tc := ⟨.hbm, 60, rfl⟩
abbrev main_call2_v6 : Ref sig .tc := ⟨.hbm, 61, rfl⟩
abbrev main_call2_v7 : Ref sig .tc := ⟨.hbm, 62, rfl⟩
abbrev main_call2_c_0 : Ref sig .tc := ⟨.hbm, 63, rfl⟩
abbrev main_call2_v8 : Ref sig .tc := ⟨.hbm, 64, rfl⟩
abbrev main_v24 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v21 : Ref sig .tc := ⟨.smem, 0, rfl⟩
abbrev main_v25 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![608], ![false]⟩

abbrev pre0 : Pipeline.Prefetch sig := ⟨2, ![main_v21.idx, main_v25.idx], fun | 0 => main_v21.names | 1 => main_v25.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S608.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S608) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S608.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S608) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S608.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S608) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsReferenceIdeal.lean ====
abbrev S64x1 : Shape := ⟨2, ![64, 1]⟩
abbrev S155648x1024 : Shape := ⟨2, ![155648, 1024]⟩
abbrev S64x1024x256 : Shape := ⟨3, ![64, 1024, 256]⟩
abbrev S64x256x1024 : Shape := ⟨3, ![64, 256, 1024]⟩
abbrev S64 : Shape := ⟨1, ![64]⟩
abbrev S_ : Shape := ⟨0, ![]⟩
abbrev S608 : Shape := ⟨1, ![608]⟩
abbrev S1x64 : Shape := ⟨2, ![1, 64]⟩
abbrev S608x1 : Shape := ⟨2, ![608, 1]⟩
abbrev S608x64 : Shape := ⟨2, ![608, 64]⟩
abbrev S608x256x1024 : Shape := ⟨3, ![608, 256, 1024]⟩
abbrev S608x1024x256 : Shape := ⟨3, ![608, 1024, 256]⟩
abbrev S608x256x256 : Shape := ⟨3, ![608, 256, 256]⟩
abbrev S1 : Shape := ⟨1, ![1]⟩
abbrev S608x1x1 : Shape := ⟨3, ![608, 1, 1]⟩

abbrev nBuf : Space → Nat
  | .hbm => 118
  | .vmem => 0
  | .smem => 0
  | _ => 0

abbrev bufTy : (tb : Table) → Fin (tcTables nBuf tb) → BufTy
  | .hbm, ⟨0, _⟩ => ⟨S64x1, .f32⟩
  | .hbm, ⟨1, _⟩ => ⟨S155648x1024, .f32⟩
  | .hbm, ⟨2, _⟩ => ⟨S64x1024x256, .f32⟩
  | .hbm, ⟨3, _⟩ => ⟨S64x1024x256, .f32⟩
  | .hbm, ⟨4, _⟩ => ⟨S64x256x1024, .f32⟩
  | .hbm, ⟨5, _⟩ => ⟨S64, .f32⟩
  | .hbm, ⟨6, _⟩ => ⟨S64, .i32⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S_, .i32⟩
  | .hbm, ⟨11, _⟩ => ⟨S64, .i32⟩
  | .hbm, ⟨12, _⟩ => ⟨S64, .i32⟩
  | .hbm, ⟨13, _⟩ => ⟨S_, .i32⟩
  | .hbm, ⟨14, _⟩ => ⟨S_, .i32⟩
  | .hbm, ⟨15, _⟩ => ⟨S64, .i32⟩
  | .hbm, ⟨16, _⟩ => ⟨S64, .i32⟩
  | .hbm, ⟨17, _⟩ => ⟨S64, .i32⟩
  | .hbm, ⟨18, _⟩ => ⟨S_, .i32⟩
  | .hbm, ⟨19, _⟩ => ⟨S64, .i32⟩
  | .hbm, ⟨20, _⟩ => ⟨S64, .i1⟩
  | .hbm, ⟨21, _⟩ => ⟨S64, .i32⟩
  | .hbm, ⟨22, _⟩ => ⟨S64, .i32⟩
  | .hbm, ⟨23, _⟩ => ⟨S_, .i32⟩
  | .hbm, ⟨24, _⟩ => ⟨S64, .i32⟩
  | .hbm, ⟨25, _⟩ => ⟨S64, .i1⟩
  | .hbm, ⟨26, _⟩ => ⟨S64, .i1⟩
  | .hbm, ⟨27, _⟩ => ⟨S_, .i32⟩
  | .hbm, ⟨28, _⟩ => ⟨S64, .i32⟩
  | .hbm, ⟨29, _⟩ => ⟨S64, .i32⟩
  | .hbm, ⟨30, _⟩ => ⟨S64, .i32⟩
  | .hbm, ⟨31, _⟩ => ⟨S_, .i32⟩
  | .hbm, ⟨32, _⟩ => ⟨S64, .i32⟩
  | .hbm, ⟨33, _⟩ => ⟨S64, .i32⟩
  | .hbm, ⟨34, _⟩ => ⟨S_, .i32⟩
  | .hbm, ⟨35, _⟩ => ⟨S_, .i32⟩
  | .hbm, ⟨36, _⟩ => ⟨S64, .i32⟩
  | .hbm, ⟨37, _⟩ => ⟨S608, .i32⟩
  | .hbm, ⟨38, _⟩ => ⟨S_, .i32⟩
  | .hbm, ⟨39, _⟩ => ⟨S608, .i32⟩
  | .hbm, ⟨40, _⟩ => ⟨S608, .i32⟩
  | .hbm, ⟨41, _⟩ => ⟨S1x64, .i32⟩
  | .hbm, ⟨42, _⟩ => ⟨S608x1, .i32⟩
  | .hbm, ⟨43, _⟩ => ⟨S608x64, .i32⟩
  | .hbm, ⟨44, _⟩ => ⟨S608x64, .i32⟩
  | .hbm, ⟨45, _⟩ => ⟨S608x64, .i1⟩
  | .hbm, ⟨46, _⟩ => ⟨S608x64, .i32⟩
  | .hbm, ⟨47, _⟩ => ⟨S_, .i32⟩
  | .hbm, ⟨48, _⟩ => ⟨S608, .i32⟩
  | .hbm, ⟨49, _⟩ => ⟨S_, .i32⟩
  | .hbm, ⟨50, _⟩ => ⟨S608, .i32⟩
  | .hbm, ⟨51, _⟩ => ⟨S608, .i32⟩
  | .hbm, ⟨52, _⟩ => ⟨S608x256x1024, .f32⟩
  | .hbm, ⟨53, _⟩ => ⟨S_, .i32⟩
  | .hbm, ⟨54, _⟩ => ⟨S608, .i32⟩
  | .hbm, ⟨55, _⟩ => ⟨S608, .i1⟩
  | .hbm, ⟨56, _⟩ => ⟨S_, .i32⟩
  | .hbm, ⟨57, _⟩ => ⟨S608, .i32⟩
  | .hbm, ⟨58, _⟩ => ⟨S608, .i32⟩
  | .hbm, ⟨59, _⟩ => ⟨S608, .i32⟩
  | .hbm, ⟨60, _⟩ => ⟨S608x1, .i32⟩
  | .hbm, ⟨61, _⟩ => ⟨S608x1024x256, .f32⟩
  | .hbm, ⟨62, _⟩ => ⟨S608x256x256, .f32⟩
  | .hbm, ⟨63, _⟩ => ⟨S608x256x256, .f32⟩
  | .hbm, ⟨64, _⟩ => ⟨S608x256x256, .f32⟩
  | .hbm, ⟨65, _⟩ => ⟨S_, .f32⟩
  | .hbm, ⟨66, _⟩ => ⟨S608x256x256, .f32⟩
  | .hbm, ⟨67, _⟩ => ⟨S608x256x256, .f32⟩
  | .hbm, ⟨68, _⟩ => ⟨S_, .f32⟩
  | .hbm, ⟨69, _⟩ => ⟨S608x256x256, .f32⟩
  | .hbm, ⟨70, _⟩ => ⟨S608x256x256, .f32⟩
  | .hbm, ⟨71, _⟩ => ⟨S608x256x256, .f32⟩
  | .hbm, ⟨72, _⟩ => ⟨S_, .i32⟩
  | .hbm, ⟨73, _⟩ => ⟨S608, .i32⟩
  | .hbm, ⟨74, _⟩ => ⟨S608, .i1⟩
  | .hbm, ⟨75, _⟩ => ⟨S_, .i32⟩
  | .hbm, ⟨76, _⟩ => ⟨S608, .i32⟩
  | .hbm, ⟨77, _⟩ => ⟨S608, .i32⟩
  | .hbm, ⟨78, _⟩ => ⟨S608, .i32⟩
  | .hbm, ⟨79, _⟩ => ⟨S608x1, .i32⟩
  | .hbm, ⟨80, _⟩ => ⟨S608x1024x256, .f32⟩
  | .hbm, ⟨81, _⟩ => ⟨S608x256x256, .f32⟩
  | .hbm, ⟨82, _⟩ => ⟨S608x256x256, .f32⟩
  | .hbm, ⟨83, _⟩ => ⟨S_, .i32⟩
  | .hbm, ⟨84, _⟩ => ⟨S608, .i32⟩
  | .hbm, ⟨85, _⟩ => ⟨S608, .i1⟩
  | .hbm, ⟨86, _⟩ => ⟨S_, .i32⟩
  | .hbm, ⟨87, _⟩ => ⟨S608, .i32⟩
  | .hbm, ⟨88, _⟩ => ⟨S608, .i32⟩
  | .hbm, ⟨89, _⟩ => ⟨S608, .i32⟩
  | .hbm, ⟨90, _⟩ => ⟨S608x1, .i32⟩
  | .hbm, ⟨91, _⟩ => ⟨S608x256x1024, .f32⟩
  | .hbm, ⟨92, _⟩ => ⟨S608x256x1024, .f32⟩
  | .hbm, ⟨93, _⟩ => ⟨S608, .i32⟩
  | .hbm, ⟨94, _⟩ => ⟨S1, .i32⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S_, .i32⟩
  | .hbm, ⟨100, _⟩ => ⟨S_, .i32⟩
  | .hbm, ⟨101, _⟩ => ⟨S_, .i1⟩
  | .hbm, ⟨102, _⟩ => ⟨S_, .i32⟩
  | .hbm, ⟨103, _⟩ => ⟨S_, .i32⟩
  | .hbm, ⟨104, _⟩ => ⟨S_, .i1⟩
  | .hbm, ⟨105, _⟩ => ⟨S_, .i1⟩
  | .hbm, ⟨106, _⟩ => ⟨S_, .i32⟩
  | .hbm, ⟨107, _⟩ => ⟨S_, .i32⟩
  | .hbm, ⟨108, _⟩ => ⟨S_, .i32⟩
  | .hbm, ⟨109, _⟩ => ⟨S608, .i32⟩
  | .hbm, ⟨110, _⟩ => ⟨S608, .i1⟩
  | .hbm, ⟨111, _⟩ => ⟨S608x1x1, .i1⟩
  | .hbm, ⟨112, _⟩ => ⟨S_, .f32⟩
  | .hbm, ⟨113, _⟩ => ⟨S_, .f32⟩
  | .hbm, ⟨114, _⟩ => ⟨S608x256x1024, .i1⟩
  | .hbm, ⟨115, _⟩ => ⟨S608x256x1024, .f32⟩
  | .hbm, ⟨116, _⟩ => ⟨S608x256x1024, .f32⟩
  | .hbm, ⟨117, _⟩ => ⟨S155648x1024, .f32⟩
  | _, _ => ⟨S64x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v6 : Ref sig .tc := ⟨.hbm, 30, rfl⟩
abbrev main_c_2 : Ref sig .tc := ⟨.hbm, 31, rfl⟩
abbrev main_v7 : Ref sig .tc := ⟨.hbm, 32, rfl⟩
abbrev main_v8 : Ref sig .tc := ⟨.hbm, 33, rfl⟩
abbrev main_call1_call0_c : Ref sig .tc := ⟨.hbm, 34, rfl⟩
abbrev main_call1_call0_v0 : Ref sig .tc := ⟨.hbm, 35, rfl⟩
abbrev main_v9 : Ref sig .tc := ⟨.hbm, 36, rfl⟩
abbrev main_v10 : Ref sig .tc := ⟨.hbm, 37, rfl⟩
abbrev main_c_3 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_c_4 : Ref sig .tc := ⟨.hbm, 47, rfl⟩
abbrev main_v19 : Ref sig .tc := ⟨.hbm, 48, rfl⟩
abbrev main_c_5 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_c_6 : Ref sig .tc := ⟨.hbm, 53, rfl⟩
abbrev main_v23 : Ref sig .tc := ⟨.hbm, 54, rfl⟩
abbrev main_v24 : Ref sig .tc := ⟨.hbm, 55, rfl⟩
abbrev main_c_7 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_call2_v0 : Ref sig .tc := ⟨.hbm, 63, rfl⟩
abbrev main_call2_v1 : Ref sig .tc := ⟨.hbm, 64, rfl⟩
abbrev main_call2_cst : Ref sig .tc := ⟨.hbm, 65, rfl⟩
abbrev main_call2_v2 : Ref sig .tc := ⟨.hbm, 66, rfl⟩
abbrev main_call2_v3 : Ref sig .tc := ⟨.hbm, 67, rfl⟩
abbrev main_call2_cst_0 : Ref sig .tc := ⟨.hbm, 68, rfl⟩
abbrev main_call2_v4 : Ref sig .tc := ⟨.hbm, 69, rfl⟩
abbrev main_call2_v5 : Ref sig .tc := ⟨.hbm, 70, rfl⟩
abbrev main_v31 : Ref sig .tc := ⟨.hbm, 71, rfl⟩
abbrev main_c_8 : Ref sig .tc := ⟨.hbm, 72, rfl⟩
abbrev main_v32 : Ref sig .tc := ⟨.hbm, 73, rfl⟩
abbrev main_v33 : Ref sig .tc := ⟨.hbm, 74, rfl⟩
abbrev main_c_9 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_c_10 : Ref sig .tc := ⟨.hbm, 83, rfl⟩
abbrev main_v41 : Ref sig .tc := ⟨.hbm, 84, rfl⟩
abbrev main_v42 : Ref sig .tc := ⟨.hbm, 85, rfl⟩
abbrev main_c_11 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_c_12 : Ref sig .tc := ⟨.hbm, 96, rfl⟩
abbrev main_call3_v0 : Ref sig .tc := ⟨.hbm, 97, rfl⟩
abbrev main_call3_v1 : Ref sig .tc := ⟨.hbm, 98, rfl⟩
abbrev main_call3_v2 : Ref sig .tc := ⟨.hbm, 99, rfl⟩
abbrev main_call3_v3 : Ref sig .tc := ⟨.hbm, 100, rfl⟩
abbrev main_call3_v4 : Ref sig .tc := ⟨.hbm, 101, rfl⟩
abbrev main_call3_v5 : Ref sig .tc := ⟨.hbm, 102, rfl⟩
abbrev main_call3_c : Ref sig .tc := ⟨.hbm, 103, rfl⟩
abbrev main_call3_v6 : Ref sig .tc := ⟨.hbm, 104, rfl⟩
abbrev main_call3_v7 : Ref sig .tc := ⟨.hbm, 105, rfl⟩
abbrev main_call3_c_0 : Ref sig .tc := ⟨.hbm, 106, rfl⟩
abbrev main_call3_v8 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_cst : Ref sig .tc := ⟨.hbm, 112, rfl⟩
abbrev main_call4_v0 : Ref sig .tc := ⟨.hbm, 113, rfl⟩
abbrev main_call4_v1 : Ref sig .tc := ⟨.hbm, 114, rfl⟩
abbrev main_call4_v2 : Ref sig .tc := ⟨.hbm, 115, rfl⟩
abbrev main_v56 : Ref sig .tc := ⟨.hbm, 116, rfl⟩
abbrev main_v57 : Ref sig .tc := ⟨.hbm, 117, rfl⟩

abbrev nD : Nat := 1
abbrev τ : Topo := Topo.v7x

variable {F : FTy → Type} [FloatOps F]
-- ==== Proof.RowMath.lean ====
/-
  The mathematics of one row of the attention on the extended reals: what the kernel computes from its scores (which are
  the reference's, times `1 / log 2`) is what the reference computes. No program is mentioned here.
-/
module
public import Idealize.ShloMosaic.Lib.Pointwise

@[expose] public section
noncomputable section
namespace Cert.Attn
open Idealize.ShloMosaic

/-- The reciprocal of the natural logarithm of two. -/
def L2 : ℝ := (Real.log 2)⁻¹

theorem L2_pos : 0 < L2 := inv_pos.mpr (Real.log_pos (by norm_num))

/-- A power of two whose exponent is scaled by `1 / log 2` is the exponential. -/
theorem exp2_mul_L2 (x : EReal) : Ideal.exp2 (x * (L2 : EReal)) = Ideal.exp x := by
  induction x with
  | bot => rw [EReal.bot_mul_coe_of_pos L2_pos]; rfl
  | top => rw [EReal.top_mul_coe_of_pos L2_pos]; rfl
  | coe r =>
    rw [← EReal.coe_mul, Ideal.exp2_coe, Ideal.exp_coe]
    congr 1
    show (2 : ℝ) ^ (r * L2) = Real.exp r
    rw [Real.rpow_def_of_pos (by norm_num)]
    congr 1
    have : Real.log 2 ≠ 0 := (Real.log_pos (by norm_num)).ne'
    unfold L2; field_simp

/-- Multiplying a difference by a real: both terms are multiplied. -/
theorem sub_mul_pos (x y : EReal) {a : ℝ} (ha : 0 < a) : x * (a : EReal) - y * (a : EReal) = (x - y) * (a : EReal) := by
  rw [sub_eq_add_neg, ← EReal.neg_mul, sub_eq_add_neg,
    EReal.right_distrib_of_nonneg_of_ne_top (EReal.coe_nonneg.mpr ha.le) (EReal.coe_ne_top a)]

/-- A positive real factor comes out of a sum. -/
theorem sum_mul_pos {ι : Type*} (s : Finset ι) (f : ι → EReal) {a : ℝ} (ha : 0 < a) :
    ∑ x ∈ s, f x * (a : EReal) = (∑ x ∈ s, f x) * (a : EReal) := by
  classical
  induction s using Finset.induction_on with
  | empty => simp
  | insert i s hi ih =>
    rw [Finset.sum_insert hi, Finset.sum_insert hi, ih,
      EReal.right_distrib_of_nonneg_of_ne_top (EReal.coe_nonneg.mpr ha.le) (EReal.coe_ne_top a)]

/-- A positive real factor comes out of a maximum. -/
theorem sup_mul_pos {ι : Type*} (s : Finset ι) (f : ι → EReal) {a : ℝ} (ha : 0 < a) :
    s.sup (fun x => f x * (a : EReal)) = s.sup f * (a : EReal) := by
  have hm : Monotone fun x : EReal => x * (a : EReal) := fun x y h =>
    mul_le_mul_of_nonneg_right h (EReal.coe_nonneg.mpr ha.le)
  exact (Finset.comp_sup_eq_sup_comp_of_is_total (fun x : EReal => x * (a : EReal)) hm (EReal.bot_mul_coe_of_pos ha)).symm

/-- The word of minus infinity. -/
theorem ofBits_ninf : Ideal.ofBits .f32 0xFF800000#32 = ⊥ := by
  simp [Ideal.ofBits, Ideal.ieee]

/-- A fold of `max` from minus infinity is the supremum. -/
theorem fold_max_eq {ι : Type*} [Fintype ι] (f : ι → EReal) :
    Finset.univ.fold max (Ideal.ofBits .f32 0xFF800000#32) f = Finset.univ.sup f := by
  rw [ofBits_ninf]; rfl

/-- The word of 32 as a float. -/
theorem ofBits_32 : Ideal.ofBits .f32 0x42000000#32 = ((32 : ℝ) : EReal) := by
  simp [Ideal.ofBits, Ideal.ieee, -EReal.coe_mul]; norm_num

/-- The word of 64 as a float. -/
theorem ofBits_64 : Ideal.ofBits .f32 0x42800000#32 = ((64 : ℝ) : EReal) := by
  simp [Ideal.ofBits, Ideal.ieee, -EReal.coe_mul]; norm_num

/-- The word of 2 as a float. -/
theorem ofBits_2 : Ideal.ofBits .f32 0x40000000#32 = ((2 : ℝ) : EReal) := by
  simp [Ideal.ofBits, Ideal.ieee, -EReal.coe_mul]; norm_num

/-- The word of 1/64 as a float. -/
theorem ofBits_64th : Ideal.ofBits .f32 0x3C800000#32 = ((1 / 64 : ℝ) : EReal) := by
  simp [Ideal.ofBits, Ideal.ieee, -EReal.coe_mul]; norm_num

/-- The word of 1 as a float. -/
theorem ofBits_1 : Ideal.ofBits .f32 0x3F800000#32 = 1 := by
  rw [show (1 : EReal) = ((1 : ℝ) : EReal) by norm_cast]
  simp [Ideal.ofBits, Ideal.ieee, -EReal.coe_mul]; norm_num

/-- Division off zero multiplies by the inverse. -/
theorem div_of_ne {x y : EReal} (h : y ≠ 0) : Ideal.div x y = x * y⁻¹ := by
  rw [Ideal.div, if_neg h]

/-- The scale the queries carry: `1 / (√32 · log 2)`. -/
theorem scale_eq : Ideal.div (Ideal.ofBits .f32 0x3F800000#32)
      (Ideal.sqrt (Ideal.ofBits .f32 0x42000000#32) * Ideal.log (Ideal.ofBits .f32 0x40000000#32))
    = (((Real.sqrt 32)⁻¹ * L2 : ℝ) : EReal) := by
  have h2 : 0 < Real.log 2 := Real.log_pos (by norm_num)
  have h32 : 0 < Real.sqrt 32 := Real.sqrt_pos.mpr (by norm_num)
  rw [ofBits_1, ofBits_32, ofBits_2, Ideal.sqrt_coe, if_neg (by norm_num), Ideal.log_coe, if_neg (by norm_num), ← EReal.coe_mul,
    Ideal.div_coe (mul_pos h32 h2).ne', one_mul]
  congr 1
  unfold L2; field_simp

/-- Division by the root of 32. -/
theorem div_sqrt32 (x : EReal) : Ideal.div x (Ideal.sqrt (Ideal.ofBits .f32 0x42000000#32)) = x * (((Real.sqrt 32)⁻¹ : ℝ) : EReal) := by
  have h32 : 0 < Real.sqrt 32 := Real.sqrt_pos.mpr (by norm_num)
  rw [ofBits_32, Ideal.sqrt_coe, if_neg (by norm_num), Ideal.div_coe h32.ne', one_div]

/-- A product of rows whose left one carries the scale is the reference's score times `1 / log 2`. -/
theorem score_eq {n : ℕ} (q k : Fin n → EReal) :
    ∑ x, q x * (((Real.sqrt 32)⁻¹ * L2 : ℝ) : EReal) * k x
      = Ideal.div (∑ x, q x * k x) (Ideal.sqrt (Ideal.ofBits .f32 0x42000000#32)) * (L2 : EReal) := by
  have h32 : 0 < Real.sqrt 32 := Real.sqrt_pos.mpr (by norm_num)
  rw [div_sqrt32, mul_assoc, ← EReal.coe_mul, ← sum_mul_pos _ _ (mul_pos (inv_pos.mpr h32) L2_pos)]
  exact Finset.sum_congr rfl fun x _ => by rw [mul_right_comm]

/-! ## Masked sums -/

/-- A sum over the lanes that keeps those of one run of `w` lanes is the sum over the run. -/
theorem sum_run {n w : ℕ} (lo : ℕ) (hw : lo + w ≤ n) (p : Fin n → Prop) [DecidablePred p]
    (hp : ∀ x, p x ↔ lo ≤ x.val ∧ x.val < lo + w) (f : Fin n → EReal) :
    ∑ x, (if p x then f x else 0) = ∑ c : Fin w, f ⟨lo + c.val, by omega⟩ := by
  rw [← Finset.sum_filter]
  refine (Finset.sum_bij (fun (c : Fin w) _ => (⟨lo + c.val, by omega⟩ : Fin n)) ?_ ?_ ?_ ?_).symm
  · intro c _; rw [Finset.mem_filter, hp]; exact ⟨Finset.mem_univ _, by simp⟩
  · intro a _ b _ h; have := congrArg Fin.val h; apply Fin.ext; simpa using this
  · intro x hx; rw [Finset.mem_filter, hp] at hx
    exact ⟨⟨x.val - lo, by omega⟩, Finset.mem_univ _, Fin.ext (by simp; omega)⟩
  · intro c _; rfl

/-! ## One row: the softmax over two segments against the softmax over their concatenation -/

/-- The reference's softmax of a row of scores. -/
def soft {n : ℕ} (r : Fin n → EReal) (x : Fin n) : EReal :=
  Ideal.div (Ideal.exp (r x - max (Ideal.ofBits .f32 0xFF800000#32) (Finset.univ.fold max (Ideal.ofBits .f32 0xFF800000#32) r)))
    (∑ y, Ideal.exp (r y - max (Ideal.ofBits .f32 0xFF800000#32) (Finset.univ.fold max (Ideal.ofBits .f32 0xFF800000#32) r)))

/-- The reference's weight: the difference of two softmaxes. -/
def wgt {n : ℕ} (lam : EReal) (r0 r1 : Fin n → EReal) (x : Fin n) : EReal := soft r0 x - lam * soft r1 x

/-- The kernel's largest score over two segments. -/
def kmx {a b : ℕ} (s : Fin a → EReal) (t : Fin b → EReal) : EReal :=
  max (Finset.univ.fold max (Ideal.ofBits .f32 0xFF800000#32) s) (Finset.univ.fold max (Ideal.ofBits .f32 0xFF800000#32) t)

/-- The kernel's reciprocal of the sum of powers. -/
def krc {a b : ℕ} (s : Fin a → EReal) (t : Fin b → EReal) : EReal :=
  Ideal.div 1 (∑ x, Ideal.exp2 (s x - kmx s t) + ∑ y, Ideal.exp2 (t y - kmx s t))

/-- The kernel's weight at a score `u` of the first softmax and `v` of the second. -/
def kwt {a b : ℕ} (lam : EReal) (s0 : Fin a → EReal) (t0 : Fin b → EReal) (s1 : Fin a → EReal) (t1 : Fin b → EReal) (u v : EReal) : EReal :=
  Ideal.exp2 (u - kmx s0 t0) * krc s0 t0 - Ideal.exp2 (v - kmx s1 t1) * (lam * krc s1 t1)

/-- The largest over a row is the larger of its two segments' largest. -/
theorem sup_append {a b : ℕ} (r : Fin (a + b) → EReal) :
    Finset.univ.sup r = max (Finset.univ.sup fun x : Fin a => r (Fin.castAdd b x)) (Finset.univ.sup fun y : Fin b => r (Fin.natAdd a y)) := by
  apply le_antisymm
  · refine Finset.sup_le fun x _ => ?_
    refine Fin.addCases (fun i => ?_) (fun j => ?_) x
    · exact le_trans (Finset.le_sup (f := fun x : Fin a => r (Fin.castAdd b x)) (Finset.mem_univ i)) (le_max_left _ _)
    · exact le_trans (Finset.le_sup (f := fun y : Fin b => r (Fin.natAdd a y)) (Finset.mem_univ j)) (le_max_right _ _)
  · exact max_le (Finset.sup_le fun i _ => Finset.le_sup (Finset.mem_univ _)) (Finset.sup_le fun j _ => Finset.le_sup (Finset.mem_univ _))

section Row
variable {a b : ℕ} (r : Fin (a + b) → EReal)

/-- The kernel's largest score is the reference's times `1 / log 2`. -/
theorem kmx_eq : kmx (fun x : Fin a => r (Fin.castAdd b x) * (L2 : EReal)) (fun y : Fin b => r (Fin.natAdd a y) * (L2 : EReal))
    = Finset.univ.sup r * (L2 : EReal) := by
  rw [kmx, fold_max_eq, fold_max_eq, sup_mul_pos _ _ L2_pos, sup_mul_pos _ _ L2_pos, sup_append]
  have hm : Monotone fun x : EReal => x * (L2 : EReal) := fun x y h =>
    mul_le_mul_of_nonneg_right h (EReal.coe_nonneg.mpr L2_pos.le)
  exact (hm.map_max).symm

/-- A power of two of a scaled score is the exponential of the score less the largest. -/
theorem pow_eq (u : EReal) : Ideal.exp2 (u * (L2 : EReal) - kmx (fun x : Fin a => r (Fin.castAdd b x) * (L2 : EReal)) (fun y : Fin b => r (Fin.natAdd a y) * (L2 : EReal)))
    = Ideal.exp (u - Finset.univ.sup r) := by
  rw [kmx_eq, sub_mul_pos _ _ L2_pos, exp2_mul_L2]

/-- The kernel's reciprocal, by the reference's sum. -/
theorem krc_eq : krc (fun x : Fin a => r (Fin.castAdd b x) * (L2 : EReal)) (fun y : Fin b => r (Fin.natAdd a y) * (L2 : EReal))
    = Ideal.div 1 (∑ x, Ideal.exp (r x - Finset.univ.sup r)) := by
  rw [krc, Fin.sum_univ_add]
  simp only [pow_eq r]

/-- An exponential isn't negative. -/
theorem exp_nonneg (x : EReal) : 0 ≤ Ideal.exp x := by
  induction x with
  | bot => exact le_refl _
  | top => exact le_top
  | coe r => exact EReal.coe_nonneg.mpr (Real.exp_pos r).le

/-- The sum of exponentials of finite scores isn't zero: the largest score contributes one. -/
theorem den_ne_zero {n : ℕ} (r : Fin n → EReal) (hn : 0 < n) (hr : ∀ x, r x ≠ ⊤ ∧ r x ≠ ⊥) :
    ∑ x, Ideal.exp (r x - Finset.univ.sup r) ≠ 0 := by
  obtain ⟨x, -, hx⟩ := Finset.exists_mem_eq_sup Finset.univ ⟨⟨0, hn⟩, Finset.mem_univ _⟩ r
  have h1 : Ideal.exp (r x - Finset.univ.sup r) = 1 := by
    rw [hx, EReal.sub_self (hr x).1 (hr x).2]
    show Ideal.exp ((0 : ℝ) : EReal) = 1
    rw [Ideal.exp_coe, Real.exp_zero]; rfl
  have h2 : Ideal.exp (r x - Finset.univ.sup r) ≤ ∑ x, Ideal.exp (r x - Finset.univ.sup r) :=
    Finset.single_le_sum (f := fun x => Ideal.exp (r x - Finset.univ.sup r)) (fun i _ => exp_nonneg _) (Finset.mem_univ x)
  rw [h1] at h2
  intro h0
  rw [h0] at h2
  exact absurd h2 (by norm_num)

/-- The reference's softmax, by the supremum. -/
theorem soft_eq {n : ℕ} (r : Fin n → EReal) (x : Fin n) :
    soft r x = Ideal.div (Ideal.exp (r x - Finset.univ.sup r)) (∑ y, Ideal.exp (r y - Finset.univ.sup r)) := by
  unfold soft
  rw [fold_max_eq, ofBits_ninf, max_eq_right bot_le]

/-- The kernel's weight is the reference's, for finite scores. -/
theorem kwt_eq (lam : EReal) (r0 r1 : Fin (a + b) → EReal) (hn : 0 < a + b) (h0 : ∀ x, r0 x ≠ ⊤ ∧ r0 x ≠ ⊥) (h1 : ∀ x, r1 x ≠ ⊤ ∧ r1 x ≠ ⊥)
    (x : Fin (a + b)) :
    kwt lam (fun x : Fin a => r0 (Fin.castAdd b x) * (L2 : EReal)) (fun y : Fin b => r0 (Fin.natAdd a y) * (L2 : EReal))
      (fun x : Fin a => r1 (Fin.castAdd b x) * (L2 : EReal)) (fun y : Fin b => r1 (Fin.natAdd a y) * (L2 : EReal))
      (r0 x * (L2 : EReal)) (r1 x * (L2 : EReal)) = wgt lam r0 r1 x := by
  rw [kwt, wgt, pow_eq r0, pow_eq r1, krc_eq r0, krc_eq r1, soft_eq, soft_eq, div_of_ne (den_ne_zero r0 hn h0), div_of_ne (den_ne_zero r0 hn h0),
    div_of_ne (den_ne_zero r1 hn h1), div_of_ne (den_ne_zero r1 hn h1), one_mul, one_mul]
  congr 1
  rw [← mul_assoc, ← mul_assoc, mul_comm _ lam]

end Row

/-! ## The normalization -/

/-- One head's normalized lane. -/
def nrm (o : Fin 64 → EReal) (g : EReal) (d : Fin 64) : EReal :=
  o d * Ideal.rsqrt (Ideal.div (∑ x, o x * o x) (Ideal.ofBits .f32 0x42800000#32) + Ideal.ofBits .f32 0x3727C5AC#32) * g * Ideal.ofBits .f32 0x3F4CCCCD#32

/-- Multiplying by 1/64 divides by 64. -/
theorem mul_64th (x : EReal) : x * Ideal.ofBits .f32 0x3C800000#32 = Ideal.div x (Ideal.ofBits .f32 0x42800000#32) := by
  rw [ofBits_64, ofBits_64th, Ideal.div_coe (by norm_num)]

end Cert.Attn
-- ==== Proof.KerScore.lean ====
/-
  The kernel's block of one grid point, read at an index.
-/
module
public import proofs.«01_k».proof.Proof.Gen.KernelIdeal.Value
public import proofs.«01_k».proof.Proof.RowMath
public import Idealize.ShloMosaic.Lib.Pipeline.ValueKit
public import Idealize.ShloMosaic.Lib.Pointwise

@[expose] public section
noncomputable section
namespace Cert.Attn.Ker
open Idealize.ShloMosaic Cert.KernelIdeal Cert.KernelIdeal.Gen Cert.KernelIdeal.Facts₀ Cert.Attn

/-- The product of a query row and a key row over the 32 lanes from `lo`. -/
def S {n : ℕ} (lo : ℕ) (h : lo + 32 ≤ 128) (q : Fin 128 → EReal) (k : Fin n → Fin 128 → EReal) (x : Fin n) : EReal :=
  ∑ c : Fin 32, q ⟨lo + c.val, by omega⟩ * k x ⟨lo + c.val, by omega⟩

/-- A sum over the lanes that keeps a run of them. -/
theorem sum_mask {w : ℕ} (lo : ℕ) (h : lo + w ≤ 128) (f : Fin 128 → EReal) (p : Fin 128 → BitVec 1)
    (hp : ∀ x, p x = 1#1 ↔ lo ≤ x.val ∧ x.val < lo + w) :
    ∑ x, Scalar.select (p x) (f x) 0 = ∑ c : Fin w, f ⟨lo + c.val, by omega⟩ :=
  sum_run lo h (fun x => p x = 1#1) hp f

theorem mask0 : ∀ x : Fin 128, IntOp.andi (IntOp.cmpi .sge (BitVec.ofNat 32 x.val) 0#32) (IntOp.cmpi .slt (BitVec.ofNat 32 x.val) 32#32) = 1#1
    ↔ 0 ≤ x.val ∧ x.val < 0 + 32 := by decide
theorem mask1 : ∀ x : Fin 128, IntOp.andi (IntOp.cmpi .sge (BitVec.ofNat 32 x.val) 32#32) (IntOp.cmpi .slt (BitVec.ofNat 32 x.val) 64#32) = 1#1
    ↔ 32 ≤ x.val ∧ x.val < 32 + 32 := by decide
theorem mask2 : ∀ x : Fin 128, IntOp.andi (IntOp.cmpi .sge (BitVec.ofNat 32 x.val) 64#32) (IntOp.cmpi .slt (BitVec.ofNat 32 x.val) 96#32) = 1#1
    ↔ 64 ≤ x.val ∧ x.val < 64 + 32 := by decide
theorem mask3 : ∀ x : Fin 128, IntOp.andi (IntOp.cmpi .sge (BitVec.ofNat 32 x.val) 96#32) (IntOp.cmpi .slt (BitVec.ofNat 32 x.val) 128#32) = 1#1
    ↔ 96 ≤ x.val ∧ x.val < 96 + 32 := by decide

/-- The lanes' numbers, as the body computes them. -/
abbrev io : IVec S1x128 32 := iota .tc S1x128 32 [1] Facts₀.iota_S1x128_d1_w32

variable (q : FVec Ideal S256x128 .bf16) (kl : FVec Ideal S4096x128 .bf16) (kc : FVec Ideal S256x128 .bf16)

/-- A row of a block. -/
abbrev rw2 {n m : ℕ} {t : FTy} (v : FVec Ideal ⟨2, ![n, m]⟩ t) : Fin n → Fin m → EReal := fun i c => v (ix2 i c)

theorem p4 (i : Fin 256) (x : Fin 4096) : k0_pay4 (F := Ideal) q kl (ix2 i x) = S 0 (by omega) (rw2 q i) (rw2 kl) x := by
  pointwise [k0_pay4, k0_pay3, k0_pay1]
  exact sum_mask 0 (by omega) (fun x' => q (ix2 i x') * kl (ix2 x x')) _ mask0
theorem p5 (i : Fin 256) (x : Fin 256) : k0_pay5 (F := Ideal) q kc (ix2 i x) = S 0 (by omega) (rw2 q i) (rw2 kc) x := by
  pointwise [k0_pay5, k0_pay3, k0_pay1]
  exact sum_mask 0 (by omega) (fun x' => q (ix2 i x') * kc (ix2 x x')) _ mask0
theorem p7 (i : Fin 256) (x : Fin 4096) : k0_pay7 (F := Ideal) q kl (ix2 i x) = S 32 (by omega) (rw2 q i) (rw2 kl) x := by
  pointwise [k0_pay7, k0_pay6, k0_pay1]
  exact sum_mask 32 (by omega) (fun x' => q (ix2 i x') * kl (ix2 x x')) _ mask1
theorem p9 (i : Fin 256) (x : Fin 256) : k0_pay9 (F := Ideal) (k0_pay6 q) (k0_pay8 kc) (constant S256x256 .f32 0x00000000#32) (ix2 i x) = S 32 (by omega) (rw2 q i) (rw2 kc) x := by
  pointwise [k0_pay9, k0_pay8, k0_pay6, k0_pay1]
  exact sum_mask 32 (by omega) (fun x' => q (ix2 i x') * kc (ix2 x x')) _ mask1
theorem p11 (i : Fin 256) (x : Fin 4096) : k0_pay11 (F := Ideal) (k0_pay1 q) io kl (ix2 i x) = S 64 (by omega) (rw2 q i) (rw2 kl) x := by
  pointwise [k0_pay11, k0_pay10, k0_pay1]
  exact sum_mask 64 (by omega) (fun x' => q (ix2 i x') * kl (ix2 x x')) _ mask2
theorem p12 (i : Fin 256) (x : Fin 256) : k0_pay12 (F := Ideal) (k0_pay1 q) io kc (ix2 i x) = S 64 (by omega) (rw2 q i) (rw2 kc) x := by
  pointwise [k0_pay12, k0_pay10, k0_pay1]
  exact sum_mask 64 (by omega) (fun x' => q (ix2 i x') * kc (ix2 x x')) _ mask2
theorem p14 (i : Fin 256) (x : Fin 4096) : k0_pay14 (F := Ideal) (k0_pay1 q) io kl (ix2 i x) = S 96 (by omega) (rw2 q i) (rw2 kl) x := by
  pointwise [k0_pay14, k0_pay13, k0_pay1]
  exact sum_mask 96 (by omega) (fun x' => q (ix2 i x') * kl (ix2 x x')) _ mask3
theorem p15 (i : Fin 256) (x : Fin 256) : k0_pay15 (F := Ideal) (k0_pay1 q) io kc (ix2 i x) = S 96 (by omega) (rw2 q i) (rw2 kc) x := by
  pointwise [k0_pay15, k0_pay13, k0_pay1]
  exact sum_mask 96 (by omega) (fun x' => q (ix2 i x') * kc (ix2 x x')) _ mask3

end Cert.Attn.Ker
-- ==== Proof.KerSoft.lean ====
/-
  The kernel's powers, sums and weights of one grid point, read at an index.
-/
module
public import proofs.«01_k».proof.Proof.Gen.KernelIdeal.Value
public import proofs.«01_k».proof.Proof.KerScore
public import Idealize.ShloMosaic.Lib.Pipeline.ValueKit
public import Idealize.ShloMosaic.Lib.Pointwise

@[expose] public section
noncomputable section
namespace Cert.Attn.Ker
open Idealize.ShloMosaic Cert.KernelIdeal Cert.KernelIdeal.Gen Cert.KernelIdeal.Facts₀ Cert.Attn

variable (s0 s1 : FVec Ideal S256x4096 .f32) (t0 t1 : FVec Ideal S256x256 .f32) (l : EReal)

/-- A block's largest entry along its rows, at a row. -/
theorem maxRow {n m : ℕ} (v : FVec Ideal ⟨2, ![n, m]⟩ .f32) (h : (⟨2, ![n, m]⟩ : Shape).Reduces [1] ⟨1, ![n]⟩) (h1 h2) (i : Fin n) :
    multiReduction (F := Ideal) .maximumf [1] ⟨1, ![n]⟩ v 0xFF800000#32 h h1 h2 (ix1 i)
      = Finset.univ.fold max (Ideal.ofBits .f32 0xFF800000#32) fun x : Fin m => v (ix2 i x) := by
  pointwise []

/-- The larger of two columns, at a row. -/
theorem max_col (A B : FVec Ideal S256 .f32) (i : Fin 256) : maximumf (shapeCast S256x1 A Facts₀.shapeCasts_S256_S256x1) (shapeCast S256x1 B Facts₀.shapeCasts_S256_S256x1) (ix2 i 0) = max (A (ix1 i)) (B (ix1 i)) := by
  pointwise []
/-- The larger of two blocks' largest entries of a row. -/
theorem max_rows (h1 h2 h3 g1 g2 g3) (i : Fin 256) : max (multiReduction (F := Ideal) .maximumf [1] S256 s0 0xFF800000#32 h1 h2 h3 (ix1 i))
      (multiReduction (F := Ideal) .maximumf [1] S256 t0 0xFF800000#32 g1 g2 g3 (ix1 i)) = kmx (rw2 s0 i) (rw2 t0 i) := by
  rw [kmx]; exact congrArg₂ max (maxRow s0 h1 h2 h3 i) (maxRow t0 g1 g2 g3 i)

/-! The running maximum of each of the four softmaxes. -/
theorem p16 (i : Fin 256) : k0_pay16 (F := Ideal) s0 t0 (ix2 i 0) = kmx (rw2 s0 i) (rw2 t0 i) :=
  (max_col _ _ i).trans (max_rows s0 t0 _ _ _ _ _ _ i)
theorem p21 (i : Fin 256) : k0_pay21 (F := Ideal) s0 t0 (ix2 i 0) = kmx (rw2 s0 i) (rw2 t0 i) :=
  (max_col _ _ i).trans (max_rows s0 t0 _ _ _ _ _ _ i)
theorem p25 (i : Fin 256) : k0_pay25 (F := Ideal) s0 t0 (ix2 i 0) = kmx (rw2 s0 i) (rw2 t0 i) :=
  (max_col _ _ i).trans (max_rows s0 t0 _ _ _ _ _ _ i)
theorem p30 (i : Fin 256) : k0_pay30 (F := Ideal) t0 (k0_pay29 s0) (ix2 i 0) = kmx (rw2 s0 i) (rw2 t0 i) :=
  (max_col _ _ i).trans (max_rows s0 t0 Facts₀.reduces_S256x4096_S256 (.inl rfl) rfl Facts₀.reduces_S256x256_S256 (.inl rfl) rfl i)

/-! The powers. -/
theorem p17 (i : Fin 256) (x : Fin 4096) : k0_pay17 (F := Ideal) s0 t0 (ix2 i x) = Ideal.exp2 (s0 (ix2 i x) - kmx (rw2 s0 i) (rw2 t0 i)) := by
  rw [← p16]; pointwise [k0_pay17]; rfl
theorem p19 (i : Fin 256) (x : Fin 256) : k0_pay19 (F := Ideal) t0 (k0_pay18 s0 t0) (ix2 i x) = Ideal.exp2 (t0 (ix2 i x) - kmx (rw2 s0 i) (rw2 t0 i)) := by
  rw [← p16]; pointwise [k0_pay19, k0_pay18]; rfl
theorem p22 (i : Fin 256) (x : Fin 4096) : k0_pay22 (F := Ideal) s0 t0 (ix2 i x) = Ideal.exp2 (s0 (ix2 i x) - kmx (rw2 s0 i) (rw2 t0 i)) := by
  rw [← p21]; pointwise [k0_pay22]; rfl
theorem p23 (i : Fin 256) (x : Fin 256) : k0_pay23 (F := Ideal) s0 t0 (ix2 i x) = Ideal.exp2 (t0 (ix2 i x) - kmx (rw2 s0 i) (rw2 t0 i)) := by
  rw [← p21]; pointwise [k0_pay23]; rfl
theorem p26 (i : Fin 256) (x : Fin 4096) : k0_pay26 (F := Ideal) s0 t0 (ix2 i x) = Ideal.exp2 (s0 (ix2 i x) - kmx (rw2 s0 i) (rw2 t0 i)) := by
  rw [← p25]; pointwise [k0_pay26]; rfl
theorem p27 (i : Fin 256) (x : Fin 256) : k0_pay27 (F := Ideal) s0 t0 (ix2 i x) = Ideal.exp2 (t0 (ix2 i x) - kmx (rw2 s0 i) (rw2 t0 i)) := by
  rw [← p25]; pointwise [k0_pay27]; rfl
theorem p31 (i : Fin 256) (x : Fin 4096) : k0_pay31 (F := Ideal) s0 t0 (k0_pay29 s0) (ix2 i x) = Ideal.exp2 (s0 (ix2 i x) - kmx (rw2 s0 i) (rw2 t0 i)) := by
  rw [← p30]; pointwise [k0_pay31]; rfl
theorem p32 (i : Fin 256) (x : Fin 256) : k0_pay32 (F := Ideal) t0 (k0_pay29 s0) (ix2 i x) = Ideal.exp2 (t0 (ix2 i x) - kmx (rw2 s0 i) (rw2 t0 i)) := by
  rw [← p30]; pointwise [k0_pay32]; rfl

/-! The reciprocals of the sums. -/
theorem p20 (i : Fin 256) : k0_pay20 (F := Ideal) t0 (k0_pay17 s0 t0) (k0_pay18 s0 t0) (ix2 i 0) = krc (rw2 s0 i) (rw2 t0 i) := by
  have e : k0_pay20 (F := Ideal) t0 (k0_pay17 s0 t0) (k0_pay18 s0 t0) (ix2 i 0) = Ideal.div (Ideal.ofBits .f32 0x3F800000#32)
      (∑ x, k0_pay17 (F := Ideal) s0 t0 (ix2 i x) + ∑ y, k0_pay19 (F := Ideal) t0 (k0_pay18 s0 t0) (ix2 i y)) := by pointwise [k0_pay20]
  rw [e, ofBits_1]; simp only [p17, p19]; rw [krc]
theorem p24 (i : Fin 256) : k0_pay24 (F := Ideal) s0 t0 (ix2 i 0) = krc (rw2 s0 i) (rw2 t0 i) := by
  have e : k0_pay24 (F := Ideal) s0 t0 (ix2 i 0) = Ideal.div (Ideal.ofBits .f32 0x3F800000#32)
      (∑ x, k0_pay22 (F := Ideal) s0 t0 (ix2 i x) + ∑ y, k0_pay23 (F := Ideal) s0 t0 (ix2 i y)) := by pointwise [k0_pay24]
  rw [e, ofBits_1]; simp only [p22, p23]; rw [krc]
theorem p28 (i : Fin 256) : k0_pay28 (F := Ideal) s0 t0 (ix2 i 0) = krc (rw2 s0 i) (rw2 t0 i) := by
  have e : k0_pay28 (F := Ideal) s0 t0 (ix2 i 0) = Ideal.div (Ideal.ofBits .f32 0x3F800000#32)
      (∑ x, k0_pay26 (F := Ideal) s0 t0 (ix2 i x) + ∑ y, k0_pay27 (F := Ideal) s0 t0 (ix2 i y)) := by pointwise [k0_pay28]
  rw [e, ofBits_1]; simp only [p26, p27]; rw [krc]
theorem p34 (i : Fin 256) : k0_pay34 (F := Ideal) l s0 t0 (k0_pay29 s0) (ix2 i 0) = l * krc (rw2 s0 i) (rw2 t0 i) := by
  have e : k0_pay34 (F := Ideal) l s0 t0 (k0_pay29 s0) (ix2 i 0) = l * Ideal.div (Ideal.ofBits .f32 0x3F800000#32)
      (∑ x, k0_pay31 (F := Ideal) s0 t0 (k0_pay29 s0) (ix2 i x) + ∑ y, k0_pay32 (F := Ideal) t0 (k0_pay29 s0) (ix2 i y)) := by pointwise [k0_pay34]
  rw [e, ofBits_1]; simp only [p31, p32]; rw [krc]
theorem p35 (a : FVec Ideal S256x4096 .f32) (b : FVec Ideal S256x1 .f32) (i : Fin 256) (x : Fin 4096) : k0_pay35 (F := Ideal) l s0 t0 a b (k0_pay29 s0) (ix2 i x)
    = a (ix2 i x) * b (ix2 i 0) - Ideal.exp2 (s0 (ix2 i x) - kmx (rw2 s0 i) (rw2 t0 i)) * (l * krc (rw2 s0 i) (rw2 t0 i)) := by
  have e : k0_pay35 (F := Ideal) l s0 t0 a b (k0_pay29 s0) (ix2 i x) = a (ix2 i x) * b (ix2 i 0) - k0_pay31 (F := Ideal) s0 t0 (k0_pay29 s0) (ix2 i x) * k0_pay34 (F := Ideal) l s0 t0 (k0_pay29 s0) (ix2 i 0) := by
    pointwise [k0_pay35]
  rw [e, p31, p34]

/-- The weights from the powers and the reciprocals. -/
def hd (l : EReal) {a b : ℕ} (s0 s1 : Fin a → EReal) (t0 t1 : Fin b → EReal) (vl : Fin a → EReal) (vc : Fin b → EReal) : EReal :=
  ∑ x, kwt l s0 t0 s1 t1 (s0 x) (s1 x) * vl x + ∑ y, kwt l s0 t0 s1 t1 (t0 y) (t1 y) * vc y

/-- The first head's weighted sum, from its two softmaxes' scores. -/
theorem p33 (vl : FVec Ideal S4096x128 .bf16) (vc : FVec Ideal S256x128 .bf16) (i : Fin 256) (c : Fin 128) :
    k0_pay33 (F := Ideal) l (k0_pay17 s0 t0) (k0_pay19 t0 (k0_pay18 s0 t0)) (k0_pay20 t0 (k0_pay17 s0 t0) (k0_pay18 s0 t0))
      (k0_pay22 s1 t1) (k0_pay23 s1 t1) (k0_pay24 s1 t1) vl vc (ix2 i c)
    = hd l (rw2 s0 i) (rw2 s1 i) (rw2 t0 i) (rw2 t1 i) (fun x => vl (ix2 x c)) (fun y => vc (ix2 y c)) := by
  have e : ∀ v73 v76 v83 v91 v94 v101, k0_pay33 (F := Ideal) l v73 v76 v83 v91 v94 v101 vl vc (ix2 i c)
      = ∑ x, (v73 (ix2 i x) * v83 (ix2 i 0) - v91 (ix2 i x) * (l * v101 (ix2 i 0))) * vl (ix2 x c)
        + ∑ x, (v76 (ix2 i x) * v83 (ix2 i 0) - v94 (ix2 i x) * (l * v101 (ix2 i 0))) * vc (ix2 x c) := by
    intro v73 v76 v83 v91 v94 v101; pointwise [k0_pay33]
  rw [e, hd]
  simp only [p17, p19, p20, p22, p23, p24, kwt, rw2]

/-- The second head's weighted sum, as the body's last part has it. -/
def o2 (v112 : FVec Ideal S256x256 .f32) (v119 : FVec Ideal S256x1 .f32) (v130 : FVec Ideal S256x256 .f32) (v160 : FVec Ideal S256x1 .f32)
    (v166 : FVec Ideal S256x4096 .bf16) (v168 : FVec Ideal S4096x128 .bf16) (vc : FVec Ideal S256x128 .bf16) (i : Fin 256) (c : Fin 128) : EReal :=
  ∑ x, v166 (ix2 i x) * v168 (ix2 x c) + ∑ y, (v112 (ix2 i y) * v119 (ix2 i 0) - v130 (ix2 i y) * v160 (ix2 i 0)) * vc (ix2 y c)

theorem o2_eq (vl : FVec Ideal S4096x128 .bf16) (vc : FVec Ideal S256x128 .bf16) (i : Fin 256) (c : Fin 128) :
    o2 (k0_pay27 s0 t0) (k0_pay28 s0 t0) (k0_pay32 t1 (k0_pay29 s1)) (k0_pay34 l s1 t1 (k0_pay29 s1))
      (k0_pay35 l s1 t1 (k0_pay26 s0 t0) (k0_pay28 s0 t0) (k0_pay29 s1)) (k0_pay36 vl) vc i c
    = hd l (rw2 s0 i) (rw2 s1 i) (rw2 t0 i) (rw2 t1 i) (fun x => vl (ix2 x c)) (fun y => vc (ix2 y c)) := by
  have e : ∀ x, k0_pay36 (F := Ideal) vl (ix2 x c) = vl (ix2 x c) := by intro x; pointwise [k0_pay36]
  rw [o2, hd]
  simp only [p26, p27, p28, p32, p34, p35, e, kwt, rw2]

theorem lt64 : ∀ x : Fin 128, IntOp.cmpi .slt (BitVec.ofNat 32 x.val) 64#32 = 1#1 ↔ x.val < 64 := by decide

/-- A sum over the lanes that drops the lower half. -/
theorem sum_high (f : Fin 128 → EReal) : ∑ x : Fin 128, Scalar.select (IntOp.cmpi .slt (BitVec.ofNat 32 x.val) 64#32) 0 (f x)
    = ∑ c : Fin 64, f ⟨64 + c.val, by omega⟩ := by
  rw [← sum_run 64 (by omega) (fun x : Fin 128 => ¬ IntOp.cmpi .slt (BitVec.ofNat 32 x.val) 64#32 = 1#1) (fun x => by rw [lt64]; omega) f]
  refine Finset.sum_congr rfl fun x _ => ?_
  by_cases h : IntOp.cmpi .slt (BitVec.ofNat 32 x.val) 64#32 = 1#1
  · exact (if_pos h).trans (if_neg (not_not.mpr h)).symm
  · exact (if_neg h).trans (if_pos h).symm

/-- A sum over the lanes that keeps the lower half. -/
theorem sum_low (f : Fin 128 → EReal) : ∑ x : Fin 128, Scalar.select (IntOp.cmpi .slt (BitVec.ofNat 32 x.val) 64#32) (f x) 0
    = ∑ c : Fin 64, f ⟨0 + c.val, by omega⟩ :=
  sum_mask 0 (by omega) f (fun x => IntOp.cmpi .slt (BitVec.ofNat 32 x.val) 64#32) (fun x => by rw [lt64]; omega)

variable (v112 : FVec Ideal S256x256 .f32) (v119 : FVec Ideal S256x1 .f32) (v130 : FVec Ideal S256x256 .f32) (v158 : FVec Ideal S256x128 .f32) (v160 : FVec Ideal S256x1 .f32)
    (v166 : FVec Ideal S256x4096 .bf16) (v168 : FVec Ideal S4096x128 .bf16) (vc : FVec Ideal S256x128 .bf16) (g : FVec Ideal S1x128 .f32)

/-- The two heads side by side. -/
def two (i : Fin 256) (c : Fin 128) : EReal :=
  Scalar.select (IntOp.cmpi .slt (BitVec.ofNat 32 c.val) 64#32) (v158 (ix2 i c)) (o2 v112 v119 v130 v160 v166 v168 vc i c)

/-- The result at an index, from the two heads' weighted sums. -/
theorem p37 (i : Fin 256) (c : Fin 128) :
    k0_pay37 (F := Ideal) k0_pay2 v112 v119 v130 v158 v160 v166 v168 vc g (ix2 i c)
      = two v112 v119 v130 v158 v160 v166 v168 vc i c * Ideal.rsqrt
        (Scalar.select (IntOp.cmpi .slt (BitVec.ofNat 32 c.val) 64#32)
          (∑ x : Fin 128, Scalar.select (IntOp.cmpi .slt (BitVec.ofNat 32 x.val) 64#32)
            (two v112 v119 v130 v158 v160 v166 v168 vc i x * two v112 v119 v130 v158 v160 v166 v168 vc i x) 0)
          (∑ x : Fin 128, Scalar.select (IntOp.cmpi .slt (BitVec.ofNat 32 x.val) 64#32) 0
            (two v112 v119 v130 v158 v160 v166 v168 vc i x * two v112 v119 v130 v158 v160 v166 v168 vc i x))
          * Ideal.ofBits .f32 0x3C800000#32 + Ideal.ofBits .f32 0x3727C5AC#32) * g (ix2 0 c) * Ideal.ofBits .f32 0x3F4CCCCD#32 := by
  pointwise [k0_pay37, k0_pay2, two, o2]

/-- The result on the first head's lanes. -/
theorem p37_low (i : Fin 256) (d : Fin 64) :
    k0_pay37 (F := Ideal) k0_pay2 v112 v119 v130 v158 v160 v166 v168 vc g (ix2 i ⟨0 + d.val, by omega⟩)
      = nrm (fun d' => v158 (ix2 i ⟨0 + d'.val, by omega⟩)) (g (ix2 0 ⟨0 + d.val, by omega⟩)) d := by
  have h : ∀ d' : Fin 64, IntOp.cmpi .slt (BitVec.ofNat 32 (⟨0 + d'.val, by omega⟩ : Fin 128).val) 64#32 = 1 := fun d' => (lt64 _).mpr (by show 0 + d'.val < 64; omega)
  have e : ∀ d' : Fin 64, two v112 v119 v130 v158 v160 v166 v168 vc i ⟨0 + d'.val, by omega⟩ = v158 (ix2 i ⟨0 + d'.val, by omega⟩) := fun d' => by
    rw [two, Scalar.select_def, if_pos (h d')]
  rw [p37, sum_low, Scalar.select_def, if_pos (h d), mul_64th, nrm]
  simp only [e]

/-- The result on the second head's lanes. -/
theorem p37_high (i : Fin 256) (d : Fin 64) :
    k0_pay37 (F := Ideal) k0_pay2 v112 v119 v130 v158 v160 v166 v168 vc g (ix2 i ⟨64 + d.val, by omega⟩)
      = nrm (fun d' => o2 v112 v119 v130 v160 v166 v168 vc i ⟨64 + d'.val, by omega⟩) (g (ix2 0 ⟨64 + d.val, by omega⟩)) d := by
  have h : ∀ d' : Fin 64, ¬ IntOp.cmpi .slt (BitVec.ofNat 32 (⟨64 + d'.val, by omega⟩ : Fin 128).val) 64#32 = 1 := fun d' => by
    exact fun hc => absurd ((lt64 _).mp hc) (by show ¬ 64 + d'.val < 64; omega)
  have e : ∀ d' : Fin 64, two v112 v119 v130 v158 v160 v166 v168 vc i ⟨64 + d'.val, by omega⟩ = o2 v112 v119 v130 v160 v166 v168 vc i ⟨64 + d'.val, by omega⟩ := fun d' => by
    rw [two, Scalar.select_def, if_neg (h d')]
  rw [p37, sum_high, Scalar.select_def, if_neg (h d), mul_64th, nrm]
  simp only [e]

end Cert.Attn.Ker
-- ==== Proof.KerBlock.lean ====
/-
  The kernel's block of one grid point, read at an index.
-/
module
public import proofs.«01_k».proof.Proof.Gen.KernelIdeal.Value
public import proofs.«01_k».proof.Proof.KerSoft
public import Idealize.ShloMosaic.Lib.Pipeline.ValueKit
public import Idealize.ShloMosaic.Lib.Pointwise

@[expose] public section
noncomputable section
namespace Cert.Attn.Ker
open Idealize.ShloMosaic Idealize.ShloMosaic.TcCoe Cert.KernelIdeal Cert.KernelIdeal.Gen Cert.Attn

section
variable (q : FVec Ideal S256x128 .bf16) (kl : FVec Ideal S4096x128 .bf16) (kc : FVec Ideal S256x128 .bf16) (i : Fin 256)

/-! The scores' rows. -/
theorem r4 : rw2 (k0_pay4 (F := Ideal) q kl) i = S 0 (by omega) (rw2 q i) (rw2 kl) := funext fun x => p4 q kl i x
theorem r5 : rw2 (k0_pay5 (F := Ideal) q kc) i = S 0 (by omega) (rw2 q i) (rw2 kc) := funext fun x => p5 q kc i x
theorem r7 : rw2 (k0_pay7 (F := Ideal) q kl) i = S 32 (by omega) (rw2 q i) (rw2 kl) := funext fun x => p7 q kl i x
theorem r9 : rw2 (k0_pay9 (F := Ideal) (k0_pay6 q) (k0_pay8 kc) (constant S256x256 .f32 0x00000000#32)) i = S 32 (by omega) (rw2 q i) (rw2 kc) := funext fun x => p9 q kc i x
theorem r11 (h) : rw2 (k0_pay11 (F := Ideal) (k0_pay1 q) (iota .tc S1x128 32 [1] h) kl) i = S 64 (by omega) (rw2 q i) (rw2 kl) := funext fun x => p11 q kl i x
theorem r12 (h) : rw2 (k0_pay12 (F := Ideal) (k0_pay1 q) (iota .tc S1x128 32 [1] h) kc) i = S 64 (by omega) (rw2 q i) (rw2 kc) := funext fun x => p12 q kc i x
theorem r14 (h) : rw2 (k0_pay14 (F := Ideal) (k0_pay1 q) (iota .tc S1x128 32 [1] h) kl) i = S 96 (by omega) (rw2 q i) (rw2 kl) := funext fun x => p14 q kl i x
theorem r15 (h) : rw2 (k0_pay15 (F := Ideal) (k0_pay1 q) (iota .tc S1x128 32 [1] h) kc) i = S 96 (by omega) (rw2 q i) (rw2 kc) := funext fun x => p15 q kc i x
end

/-- A head's weighted sum at a lane, from the rows of the five blocks; its two softmaxes take the 32 lanes from `lo` and the next 32. -/
def hdb (l : EReal) (lo : ℕ) (h : lo + 64 ≤ 128) (q : Fin 128 → EReal) (kl : Fin 4096 → Fin 128 → EReal) (kc : Fin 256 → Fin 128 → EReal)
    (vl : Fin 4096 → Fin 128 → EReal) (vc : Fin 256 → Fin 128 → EReal) (c : Fin 128) : EReal :=
  hd l (S lo (by omega) q kl) (S (lo + 32) (by omega) q kl) (S lo (by omega) q kc) (S (lo + 32) (by omega) q kc) (fun x => vl x c) (fun y => vc y c)

variable (m : (ℓ : Loc nD τ sig) → Buf (Elt Ideal) ℓ) (c : Dev nD) (t : Fin cfg0.N)

/-- The factor's word as the body reads it. -/
theorem lw (h) : View.ld (iblk m c 0 t) (Rect.unit ![0] ![1] inb_S1_S1_0) (Shape.Idx.first h) = (iblk m c 0 t : FVec Ideal S1 .f32) (ix1 0) := by
  pointwise []

/-- What the body leaves on the first head's lanes. -/
theorem blk_low (i : Fin 256) (d : Fin 64) : (outsAt0 m c t : Vec Ideal S256x128 .bf16) (ix2 i ⟨0 + d.val, by omega⟩)
    = nrm (fun d' => hdb ((iblk m c 0 t : FVec Ideal S1 .f32) (ix1 0)) 0 (by omega) (rw2 (t := .bf16) (iblk m c 1 t) i) (rw2 (t := .bf16) (X0_2 m c t)) (rw2 (t := .bf16) (iblk m c 3 t)) (rw2 (t := .bf16) (X0_4 m c t)) (rw2 (t := .bf16) (iblk m c 5 t)) ⟨0 + d'.val, by omega⟩)
      (iblk m c 6 t (ix2 0 ⟨0 + d.val, by omega⟩)) d := by
  unfold outsAt0
  frame_out
  rw [p37_low]
  simp only [p33, r4, r5, r7, r9, hdb, lw]

theorem hd_congr {l : EReal} {a a' b b' : Fin 4096 → EReal} {e e' f f' : Fin 256 → EReal} {vl : Fin 4096 → EReal} {vc : Fin 256 → EReal}
    (h1 : a = a') (h2 : b = b') (h3 : e = e') (h4 : f = f') : hd l a b e f vl vc = hd l a' b' e' f' vl vc := by
  rw [h1, h2, h3, h4]

/-- What the body leaves on the second head's lanes. -/
theorem blk_high (i : Fin 256) (d : Fin 64) : (outsAt0 m c t : Vec Ideal S256x128 .bf16) (ix2 i ⟨64 + d.val, by omega⟩)
    = nrm (fun d' => hdb ((iblk m c 0 t : FVec Ideal S1 .f32) (ix1 0)) 64 (by omega) (rw2 (t := .bf16) (iblk m c 1 t) i) (rw2 (t := .bf16) (X0_2 m c t)) (rw2 (t := .bf16) (iblk m c 3 t)) (rw2 (t := .bf16) (X0_4 m c t)) (rw2 (t := .bf16) (iblk m c 5 t)) ⟨64 + d'.val, by omega⟩)
      (iblk m c 6 t (ix2 0 ⟨64 + d.val, by omega⟩)) d := by
  unfold outsAt0
  frame_out
  rw [p37_high]
  simp only [o2_eq, hdb, lw]
  exact congrArg (fun f => nrm f _ d) (funext fun d' => hd_congr (r11 (iblk m c 1 t) (X0_2 m c t) i _) (r14 (iblk m c 1 t) (X0_2 m c t) i _) (r12 (iblk m c 1 t) (iblk m c 3 t) i _) (r15 (iblk m c 1 t) (iblk m c 3 t) i _))

end Cert.Attn.Ker
-- ==== Proof.KerArr.lean ====
/-
  The blocks of one grid point read as entries of the arguments, and the blocks that cover the result.
-/
module
public import proofs.«01_k».proof.Proof.KerBlock
public import Idealize.ShloMosaic.Lib.Claim
public import Idealize.ShloMosaic.Lib.Pipeline.Covers
@[expose] public section
noncomputable section
namespace Cert.Attn.Ker
open Idealize.ShloMosaic Idealize.ShloMosaic.TcCoe Cert.KernelIdeal Cert.KernelIdeal.Gen Cert.Attn
variable (m : (ℓ : Loc nD τ sig) → Buf (Elt Ideal) ℓ) (c : Dev nD) (t : Fin cfg0.N)

/-! The arguments the blocks are read from. -/
abbrev aQ : FVec Ideal S4x4096x512 .f32 := m (c, Proc.tc.devRef main_arg4)
abbrev aK : FVec Ideal S4x4096x512 .f32 := m (c, Proc.tc.devRef main_arg6)
abbrev aKc : FVec Ideal S4x256x512 .f32 := m (c, Proc.tc.devRef main_arg7)
abbrev aV : FVec Ideal S4x4096x512 .f32 := m (c, Proc.tc.devRef main_arg8)
abbrev aVc : FVec Ideal S4x256x512 .f32 := m (c, Proc.tc.devRef main_arg9)
abbrev aG : FVec Ideal S64 .f32 := m (c, Proc.tc.devRef main_arg10)
abbrev aL (k : Fin 4) : FVec Ideal S32 .f32 := match k with
  | 0 => m (c, Proc.tc.devRef main_arg0) | 1 => m (c, Proc.tc.devRef main_arg1) | 2 => m (c, Proc.tc.devRef main_arg2) | 3 => m (c, Proc.tc.devRef main_arg3)

/-- The rows of two blocks, one after the other: a row of the first. -/
theorem cat_low {a b n w : ℕ} (x : (⟨2, ![a, w]⟩ : Shape).Idx → EReal) (y : (⟨2, ![b, w]⟩ : Shape).Idx → EReal)
    (h : Shape.Concatenates [⟨2, ![a, w]⟩, ⟨2, ![b, w]⟩] ⟨2, ![n, w]⟩ 0) (r : Fin n) (l : Fin w) (hr : r.val < a) :
    concatenate ⟨2, ![n, w]⟩ 0 [⟨⟨2, ![a, w]⟩, x⟩, ⟨⟨2, ![b, w]⟩, y⟩] h (ix2 r l) = x (ix2 ⟨r.val, hr⟩ l) := by
  rw [concatenate_pair_apply]
  refine (dif_pos hr).trans (congrArg x ?_)
  funext k
  match k with
  | 0 => rfl
  | 1 => rfl

/-- The rows of two blocks, one after the other: a row of the second. -/
theorem cat_high {a b n w : ℕ} (x : (⟨2, ![a, w]⟩ : Shape).Idx → EReal) (y : (⟨2, ![b, w]⟩ : Shape).Idx → EReal)
    (h : Shape.Concatenates [⟨2, ![a, w]⟩, ⟨2, ![b, w]⟩] ⟨2, ![n, w]⟩ 0) (r : Fin n) (l : Fin w) (hr : ¬ r.val < a) (hr' : r.val - a < b) :
    concatenate ⟨2, ![n, w]⟩ 0 [⟨⟨2, ![a, w]⟩, x⟩, ⟨⟨2, ![b, w]⟩, y⟩] h (ix2 r l) = y (ix2 ⟨r.val - a, hr'⟩ l) := by
  rw [concatenate_pair_apply]
  refine (dif_neg hr).trans (congrArg y ?_)
  funext k
  match k with
  | 0 => rfl
  | 1 => rfl

theorem ix3_congr {n1 n2 n3 : ℕ} {a a' : Fin n1} {b b' : Fin n2} {l : Fin n3} (h : a = a') (h' : b = b') : ix3 a b l = ix3 a' b' l := by
  rw [h, h']

theorem V18 (r : Fin 17408) (l : Fin 512) (b : Fin 4) (i : Fin 4096) (e : r.val = b.val * 4096 + i.val) : (V m c main_v18 : FVec Ideal S17408x512 .bf16) (ix2 r l)
    = (aQ m c (ix3 b i l) * (↑((√32)⁻¹ * L2) : EReal) : EReal) := by
  entry_read
  rw [truncf_apply, mulf_apply]
  refine (congrArg₂ (· * ·) (cat_low (a := 16384) (b := 1024) (n := 17408) (w := 512) _ _ concatenates_S16384x512_S1024x512_S17408x512_d0 r l (by omega)) rfl).trans ?_
  pointwise
  rw [ix3_congr (a' := b) (b' := i) (Fin.ext (by show r.val / 4096 = b.val; omega)) (Fin.ext (by show r.val % 4096 = i.val; omega))]
  exact congrArg (aQ m c (ix3 b i l) * ·) ((congrArg (Ideal.div · _) ofBits_1.symm).trans scale_eq)

theorem V22 (r : Fin 17408) (l : Fin 512) (b : Fin 4) (i : Fin 4096) (e : r.val = b.val * 4096 + i.val) : (V m c main_v22 : FVec Ideal S17408x512 .bf16) (ix2 r l)
    = aK m c (ix3 b i l) := by
  entry_read
  refine (cat_low (a := 16384) (b := 1024) (n := 17408) (w := 512) _ _ concatenates_S16384x512_S1024x512_S17408x512_d0 r l (by omega)).trans ?_
  pointwise
  rw [ix3_congr (a' := b) (b' := i) (Fin.ext (by show r.val / 4096 = b.val; omega)) (Fin.ext (by show r.val % 4096 = i.val; omega))]

theorem V22c (r : Fin 17408) (l : Fin 512) (b : Fin 4) (i : Fin 256) (e : r.val = (64 + b.val) * 256 + i.val) : (V m c main_v22 : FVec Ideal S17408x512 .bf16) (ix2 r l)
    = aKc m c (ix3 b i l) := by
  entry_read
  refine (cat_high (a := 16384) (b := 1024) (n := 17408) (w := 512) _ _ concatenates_S16384x512_S1024x512_S17408x512_d0 r l (by omega) (by omega)).trans ?_
  pointwise
  rw [ix3_congr (a' := b) (b' := i) (Fin.ext (by show (r.val - 16384) / 256 = b.val; omega)) (Fin.ext (by show (r.val - 16384) % 256 = i.val; omega))]

theorem V26 (r : Fin 17408) (l : Fin 512) (b : Fin 4) (i : Fin 4096) (e : r.val = b.val * 4096 + i.val) : (V m c main_v26 : FVec Ideal S17408x512 .bf16) (ix2 r l)
    = aV m c (ix3 b i l) := by
  entry_read
  refine (cat_low (a := 16384) (b := 1024) (n := 17408) (w := 512) _ _ concatenates_S16384x512_S1024x512_S17408x512_d0 r l (by omega)).trans ?_
  pointwise
  rw [ix3_congr (a' := b) (b' := i) (Fin.ext (by show r.val / 4096 = b.val; omega)) (Fin.ext (by show r.val % 4096 = i.val; omega))]

theorem V26c (r : Fin 17408) (l : Fin 512) (b : Fin 4) (i : Fin 256) (e : r.val = (64 + b.val) * 256 + i.val) : (V m c main_v26 : FVec Ideal S17408x512 .bf16) (ix2 r l)
    = aVc m c (ix3 b i l) := by
  entry_read
  refine (cat_high (a := 16384) (b := 1024) (n := 17408) (w := 512) _ _ concatenates_S16384x512_S1024x512_S17408x512_d0 r l (by omega) (by omega)).trans ?_
  pointwise
  rw [ix3_congr (a' := b) (b' := i) (Fin.ext (by show (r.val - 16384) / 256 = b.val; omega)) (Fin.ext (by show (r.val - 16384) % 256 = i.val; omega))]

theorem ix1_eq : ∀ b < 4, ∀ ib < 16, (Scalar.addi (Scalar.addi 0#32 (Scalar.muli (BitVec.ofNat 32 b) 16#32)) (BitVec.ofNat 32 ib)).toNat = b * 16 + ib := by decide
theorem ix7_eq : ∀ b < 4, ∀ ib < 16, (Scalar.addi (Scalar.muli (BitVec.ofNat 32 b) 16#32) (BitVec.ofNat 32 ib)).toNat = b * 16 + ib := by decide
theorem ix3_eq : ∀ b < 4, (Scalar.addi 64#32 (BitVec.ofNat 32 b)).toNat = 64 + b := by decide
theorem ix0_eq : ∀ b < 4, (BitVec.ofNat 32 b).toNat = b := by decide

/-- The batch entry, the pair of heads and the block of rows of a grid point. -/
abbrev gb : Fin 4 := grid0.coords t 0
abbrev gh : Fin 4 := grid0.coords t 1
abbrev gi : Fin 16 := grid0.coords t 2

theorem emb1 (i : Fin 256) (z : Fin 128) : (win0_1.blk t).view.emb (ix2 i z)
    = (ix2 ⟨((gb t).val * 16 + (gi t).val) * 256 + i.val, by omega⟩ ⟨(gh t).val * 128 + z.val, by omega⟩ : S17408x512.Idx) := by
  funext a
  apply Fin.ext
  refine (Pipeline.Window.rect_emb_val win0_1 t (ix2 i z) a rfl).trans ?_
  match a with
  | 0 => exact congrArg (· * 256 + i.val) (ix1_eq _ (gb t).isLt _ (gi t).isLt)
  | 1 => exact congrArg (· * 128 + z.val) (ix0_eq _ (gh t).isLt)
theorem emb7 (i : Fin 256) (z : Fin 128) : (win0_7.blk t).view.emb (ix2 i z)
    = (ix2 ⟨((gb t).val * 16 + (gi t).val) * 256 + i.val, by omega⟩ ⟨(gh t).val * 128 + z.val, by omega⟩ : S16384x512.Idx) := by
  funext a
  apply Fin.ext
  refine (Pipeline.Window.rect_emb_val win0_7 t (ix2 i z) a rfl).trans ?_
  match a with
  | 0 => exact congrArg (· * 256 + i.val) (ix7_eq _ (gb t).isLt _ (gi t).isLt)
  | 1 => exact congrArg (· * 128 + z.val) (ix0_eq _ (gh t).isLt)
theorem emb3 (i : Fin 256) (z : Fin 128) : (win0_3.blk t).view.emb (ix2 i z)
    = (ix2 ⟨(64 + (gb t).val) * 256 + i.val, by omega⟩ ⟨(gh t).val * 128 + z.val, by omega⟩ : S17408x512.Idx) := by
  funext a
  apply Fin.ext
  refine (Pipeline.Window.rect_emb_val win0_3 t (ix2 i z) a rfl).trans ?_
  match a with
  | 0 => exact congrArg (· * 256 + i.val) (ix3_eq _ (gb t).isLt)
  | 1 => exact congrArg (· * 128 + z.val) (ix0_eq _ (gh t).isLt)
theorem emb5 (i : Fin 256) (z : Fin 128) : (win0_5.blk t).view.emb (ix2 i z)
    = (ix2 ⟨(64 + (gb t).val) * 256 + i.val, by omega⟩ ⟨(gh t).val * 128 + z.val, by omega⟩ : S17408x512.Idx) := by
  funext a
  apply Fin.ext
  refine (Pipeline.Window.rect_emb_val win0_5 t (ix2 i z) a rfl).trans ?_
  match a with
  | 0 => exact congrArg (· * 256 + i.val) (ix3_eq _ (gb t).isLt)
  | 1 => exact congrArg (· * 128 + z.val) (ix0_eq _ (gh t).isLt)

/-- The queries' block at a point: rows of the first stream, scaled. -/
theorem q_read (i : Fin 256) (z : Fin 128) : rw2 (t := .bf16) (iblk m c 1 t) i z
    = (aQ m c (ix3 (gb t) ⟨(gi t).val * 256 + i.val, by omega⟩ ⟨(gh t).val * 128 + z.val, by omega⟩) * (↑((√32)⁻¹ * L2) : EReal) : EReal) := by
  show V m c main_v18 ((win0_1.blk t).view.emb (ix2 i z)) = _
  rw [emb1]
  exact V18 m c _ _ (gb t) ⟨(gi t).val * 256 + i.val, by omega⟩ (by show ((gb t).val * 16 + (gi t).val) * 256 + i.val = (gb t).val * 4096 + ((gi t).val * 256 + i.val); omega)

theorem kl_read (x : Fin 4096) (z : Fin 128) : rw2 (t := .bf16) (X0_2 m c t) x z
    = aK m c (ix3 (gb t) x ⟨(gh t).val * 128 + z.val, by omega⟩) := by
  show X0_2 m c t (ix2 x z) = _
  unfold X0_2 Pipeline.Window.fill
  rw [dif_pos (moved0_2 t _)]
  show V m c main_v22 ((win0_2.blk t).view.emb _) = _
  have e : (win0_2.blk t).view.emb (fun a => ⟨((ix2 x z : (⟨2, ![4096, 128]⟩ : Shape).Idx) a).val, ((cfg0.win 2).moved_iff _ _).mp (moved0_2 t (ix2 x z)) a⟩) = (ix2 ⟨(gb t).val * 4096 + x.val, by omega⟩ ⟨(gh t).val * 128 + z.val, by omega⟩ : S17408x512.Idx) := by
    funext a
    apply Fin.ext
    refine (Pipeline.Window.rect_emb_val win0_2 t _ a rfl).trans ?_
    match a with
    | 0 => exact congrArg (· * 4096 + x.val) (ix0_eq _ (gb t).isLt)
    | 1 => exact congrArg (· * 128 + z.val) (ix0_eq _ (gh t).isLt)
  rw [e]
  exact V22 m c _ _ (gb t) x rfl

theorem kc_read (i : Fin 256) (z : Fin 128) : rw2 (t := .bf16) (iblk m c 3 t) i z
    = aKc m c (ix3 (gb t) i ⟨(gh t).val * 128 + z.val, by omega⟩) := by
  show V m c main_v22 ((win0_3.blk t).view.emb (ix2 i z)) = _
  rw [emb3]
  exact V22c m c _ _ (gb t) i rfl

theorem vl_read (x : Fin 4096) (z : Fin 128) : rw2 (t := .bf16) (X0_4 m c t) x z
    = aV m c (ix3 (gb t) x ⟨(gh t).val * 128 + z.val, by omega⟩) := by
  show X0_4 m c t (ix2 x z) = _
  unfold X0_4 Pipeline.Window.fill
  rw [dif_pos (moved0_4 t _)]
  show V m c main_v26 ((win0_4.blk t).view.emb _) = _
  have e : (win0_4.blk t).view.emb (fun a => ⟨((ix2 x z : (⟨2, ![4096, 128]⟩ : Shape).Idx) a).val, ((cfg0.win 4).moved_iff _ _).mp (moved0_4 t (ix2 x z)) a⟩) = (ix2 ⟨(gb t).val * 4096 + x.val, by omega⟩ ⟨(gh t).val * 128 + z.val, by omega⟩ : S17408x512.Idx) := by
    funext a
    apply Fin.ext
    refine (Pipeline.Window.rect_emb_val win0_4 t _ a rfl).trans ?_
    match a with
    | 0 => exact congrArg (· * 4096 + x.val) (ix0_eq _ (gb t).isLt)
    | 1 => exact congrArg (· * 128 + z.val) (ix0_eq _ (gh t).isLt)
  rw [e]
  exact V26 m c _ _ (gb t) x rfl

theorem vc_read (i : Fin 256) (z : Fin 128) : rw2 (t := .bf16) (iblk m c 5 t) i z
    = aVc m c (ix3 (gb t) i ⟨(gh t).val * 128 + z.val, by omega⟩) := by
  show V m c main_v26 ((win0_5.blk t).view.emb (ix2 i z)) = _
  rw [emb5]
  exact V26c m c _ _ (gb t) i rfl

theorem g_read (z : Fin 128) : (iblk m c 6 t : FVec Ideal S1x128 .f32) (ix2 0 z)
    = aG m c (ix1 ⟨z.val % 64, by omega⟩) := by
  blk_simp [iblk]
  entry_read
  pointwise
  congr 2
  apply Fin.ext
  show _ % 64 = _ % 64
  congr 1
  refine (Pipeline.Window.rect_emb_val win0_6 t (ix2 0 z) 1 rfl).trans ?_
  exact Nat.zero_add _

theorem l_read : (iblk m c 0 t : FVec Ideal S1 .f32) (ix1 0)
    = Ideal.exp (∑ x, aL m c 0 (ix1 x) * aL m c 1 (ix1 x))
      - Ideal.exp (∑ x, aL m c 2 (ix1 x) * aL m c 3 (ix1 x))
      + Ideal.ofBits .f32 0x3E4CCCCD#32 := by
  blk_simp [iblk]
  entry_read
  pointwise

theorem covers7 : (cfg0.win 7).Covers :=
  (cfg0.win 7).covers_of_indexMap_surj rfl (by decide) fun β =>
    ⟨fun a => match a with
      | 0 => (⟨(β 0).val / 16, by have := (β 0).isLt; change (β 0).val < 64 at this; omega⟩ : Fin 4)
      | 1 => (⟨(β 1).val, (β 1).isLt⟩ : Fin 4)
      | 2 => (⟨(β 0).val % 16, by omega⟩ : Fin 16), fun a => by
      match a with
      | 0 =>
        have := (β 0).isLt; change (β 0).val < 64 at this
        refine (ix7_eq _ (by show (β 0).val / 16 < 4; omega) _ (by show (β 0).val % 16 < 16; omega)).trans ?_
        show (β 0).val / 16 * 16 + (β 0).val % 16 = _
        omega
      | 1 => exact ix0_eq _ (β 1).isLt⟩
end Cert.Attn.Ker
-- ==== Proof.RefRead.lean ====
/-
  The reference of the attention read at an index: its composed term cut into steps, each step's value at coordinates.
-/
module
public import proofs.«01_k».proof.Proof.Gen.ReferenceIdeal.Run
public import proofs.«01_k».proof.Proof.RowMath

@[expose] public section
set_option maxRecDepth 16384
noncomputable section
namespace Cert.Attn.Ref
open Cert.ReferenceIdeal Cert.ReferenceIdeal.Gen Idealize.ShloMosaic Idealize.ShloMosaic.TcCoe Idealize.SL.Sem

/-- The heads of the queries. -/
def qh (q : FVec Ideal S4x4096x512 .f32) : FVec Ideal S2x4x8x4096x32 .f32 :=
  transpose S2x4x8x4096x32 [3, 0, 2, 1, 4] (shapeCast S4x4096x8x2x32 q shapeCasts_S4x4096x512_S4x4096x8x2x32) transposes_S4x4096x8x2x32_S2x4x8x4096x32_3_0_2_1_4

/-- The heads of the context keys. -/
def ch (k : FVec Ideal S4x256x512 .f32) : FVec Ideal S2x4x8x256x32 .f32 :=
  transpose S2x4x8x256x32 [3, 0, 2, 1, 4] (shapeCast S4x256x8x2x32 k shapeCasts_S4x256x512_S4x256x8x2x32) transposes_S4x256x8x2x32_S2x4x8x256x32_3_0_2_1_4

/-- The keys of both streams, one after the other. -/
def kh (k : FVec Ideal S4x4096x512 .f32) (kc : FVec Ideal S4x256x512 .f32) : FVec Ideal S2x4x8x4352x32 .f32 :=
  concatenate S2x4x8x4352x32 3 [⟨S2x4x8x4096x32, qh k⟩, ⟨S2x4x8x256x32, ch kc⟩] concatenates_S2x4x8x4096x32_S2x4x8x256x32_S2x4x8x4352x32_d3

/-- The values of both streams, by head, one after the other. -/
def vh (v : FVec Ideal S4x4096x512 .f32) (vc : FVec Ideal S4x256x512 .f32) : FVec Ideal S4x8x4352x64 .f32 :=
  concatenate S4x8x4352x64 2 [⟨S4x8x4096x64, transpose S4x8x4096x64 [0, 2, 1, 3] (shapeCast S4x4096x8x64 v shapeCasts_S4x4096x512_S4x4096x8x64) transposes_S4x4096x8x64_S4x8x4096x64_0_2_1_3⟩,
    ⟨S4x8x256x64, transpose S4x8x256x64 [0, 2, 1, 3] (shapeCast S4x256x8x64 vc shapeCasts_S4x256x512_S4x256x8x64) transposes_S4x256x8x64_S4x8x256x64_0_2_1_3⟩] concatenates_S4x8x4096x64_S4x8x256x64_S4x8x4352x64_d2

/-- The scores. -/
def sc (Q : FVec Ideal S2x4x8x4096x32 .f32) (K : FVec Ideal S2x4x8x4352x32 .f32) : FVec Ideal S2x4x8x4096x4352 .f32 :=
  Host.divf (Host.dotGeneral dot_S2x4x8x4096x32_S2x4x8x4352x32_S2x4x8x4096x4352_4_4_3_3_012_012 none Q K)
    (broadcastInDim S2x4x8x4096x4352 ![] bcast_S_S2x4x8x4096x4352 (Host.sqrt (constant S_ .f32 0x42000000#32)))

/-- A value per row, at every key. -/
def bc (v : FVec Ideal S2x4x8x4096 .f32) : FVec Ideal S2x4x8x4096x4352 .f32 :=
  broadcastInDim S2x4x8x4096x4352 ![0, 1, 2, 3, 4] bcast_S2x4x8x4096x1_S2x4x8x4096x4352_0_1_2_3_4
    (broadcastInDim S2x4x8x4096x1 ![0, 1, 2, 3] bcast_S2x4x8x4096_S2x4x8x4096x1_0_1_2_3 v)

/-- The larger of minus infinity and a value per row. -/
def mxi (v : FVec Ideal S2x4x8x4096 .f32) : FVec Ideal S2x4x8x4096 .f32 :=
  maximumf (broadcastInDim S2x4x8x4096 ![] bcast_S_S2x4x8x4096 (constant S_ .f32 0xFF800000#32)) v

/-- The largest score of a row. -/
def mx (s : FVec Ideal S2x4x8x4096x4352 .f32) : FVec Ideal S2x4x8x4096 .f32 :=
  Host.reduce FloatOps.maximumf s (constant S_ .f32 0xFF800000#32) reducesTo_S2x4x8x4096x4352_S2x4x8x4096_d4 h_S_

/-- The exponentials of the scores less their row's largest. -/
def ex (s : FVec Ideal S2x4x8x4096x4352 .f32) : FVec Ideal S2x4x8x4096x4352 .f32 :=
  Host.exp (subf s (bc (mxi (mx s))))

/-- The softmax from those exponentials. -/
def sm (e : FVec Ideal S2x4x8x4096x4352 .f32) : FVec Ideal S2x4x8x4096x4352 .f32 :=
  Host.divf e (broadcastInDim S2x4x8x4096x4352 ![0, 1, 2, 3, 4] bcast_S2x4x8x4096x1_S2x4x8x4096x4352_0_1_2_3_4
    (broadcastInDim S2x4x8x4096x1 ![0, 1, 2, 3] bcast_S2x4x8x4096_S2x4x8x4096x1_0_1_2_3
      (Host.reduceAdd e (constant S_ .f32 0x00000000#32) reducesTo_S2x4x8x4096x4352_S2x4x8x4096_d4 h_S_)))

/-- The difference's factor. -/
def lam (a b c d : FVec Ideal S32 .f32) : FVec Ideal S_ .f32 :=
  addf (subf (Host.exp (Host.reduceAdd (mulf a b) (constant S_ .f32 0x00000000#32) reducesTo_S32_S_d0 h_S_))
    (Host.exp (Host.reduceAdd (mulf c d) (constant S_ .f32 0x00000000#32) reducesTo_S32_S_d0 h_S_))) (constant S_ .f32 0x3E4CCCCD#32)

/-- The difference of the two softmaxes. -/
def wt (l : FVec Ideal S_ .f32) (a : FVec Ideal S2x4x8x4096x4352 .f32) : FVec Ideal S4x8x4096x4352 .f32 :=
  subf (shapeCast S4x8x4096x4352 (extractStridedSlice S1x4x8x4096x4352 ![0, 0, 0, 0, 0] a slices_S2x4x8x4096x4352_S1x4x8x4096x4352_0_0_0_0_0) shapeCasts_S1x4x8x4096x4352_S4x8x4096x4352)
    (mulf (broadcastInDim S4x8x4096x4352 ![] bcast_S_S4x8x4096x4352 l)
      (shapeCast S4x8x4096x4352 (extractStridedSlice S1x4x8x4096x4352 ![1, 0, 0, 0, 0] a slices_S2x4x8x4096x4352_S1x4x8x4096x4352_1_0_0_0_0) shapeCasts_S1x4x8x4096x4352_S4x8x4096x4352))

/-- The weighted sums of the values. -/
def ov (w : FVec Ideal S4x8x4096x4352 .f32) (V : FVec Ideal S4x8x4352x64 .f32) : FVec Ideal S4x8x4096x64 .f32 :=
  Host.dotGeneral dot_S4x8x4096x4352_S4x8x4352x64_S4x8x4096x64_3_2_2_3_01_01 none w V

/-- The normalized heads. -/
def nrm (o : FVec Ideal S4x8x4096x64 .f32) (g : FVec Ideal S64 .f32) : FVec Ideal S4x8x4096x64 .f32 :=
  mulf (mulf (mulf o (broadcastInDim S4x8x4096x64 ![0, 1, 2, 3] bcast_S4x8x4096x1_S4x8x4096x64_0_1_2_3
      (Host.rsqrt (addf (Host.divf (broadcastInDim S4x8x4096x1 ![0, 1, 2] bcast_S4x8x4096_S4x8x4096x1_0_1_2
          (Host.reduceAdd (mulf o o) (constant S_ .f32 0x00000000#32) reducesTo_S4x8x4096x64_S4x8x4096_d3 h_S_))
        (broadcastInDim S4x8x4096x1 ![] bcast_S_S4x8x4096x1 (constant S_ .f32 0x42800000#32)))
        (broadcastInDim S4x8x4096x1 ![] bcast_S_S4x8x4096x1 (constant S_ .f32 0x3727C5AC#32))))))
    (broadcastInDim S4x8x4096x64 ![0, 1, 2, 3] bcast_S1x1x1x64_S4x8x4096x64_0_1_2_3 (broadcastInDim S1x1x1x64 ![3] bcast_S64_S1x1x1x64_3 g)))
    (broadcastInDim S4x8x4096x64 ![] bcast_S_S4x8x4096x64 (constant S_ .f32 0x3F4CCCCD#32))

/-- The heads side by side, a row per position. -/
def rows (y : FVec Ideal S4x8x4096x64 .f32) : FVec Ideal S16384x512 .bf16 :=
  truncf .bf16 (shapeCast S16384x512 (transpose S4x4096x8x64 [0, 2, 1, 3] y transposes_S4x8x4096x64_S4x4096x8x64_0_2_1_3) shapeCasts_S4x4096x8x64_S16384x512) bitsLt_bf16_f32

set_option maxHeartbeats 4000000 in
/-- The reference's result is the composition of these steps. -/
theorem res_eq (m : (ℓ : Loc nD τ sig) → Buf (Elt Ideal) ℓ) (c : Dev nD) :
    Value.res_out0 m c = rows (nrm (ov (wt (lam (m (c.tc.loc main_arg0)) (m (c.tc.loc main_arg1)) (m (c.tc.loc main_arg2)) (m (c.tc.loc main_arg3)))
      (sm (ex (sc (qh (m (c.tc.loc main_arg4))) (kh (m (c.tc.loc main_arg6)) (m (c.tc.loc main_arg7)))))))
      (vh (m (c.tc.loc main_arg8)) (m (c.tc.loc main_arg9)))) (m (c.tc.loc main_arg10))) := rfl

/-- A reference's largest entry along the last of five axes, at an index. -/
theorem hostMax5 {n0 n1 n2 n3 n4 : Nat} {u : Shape} (x : FVec Ideal ⟨5, ![n0, n1, n2, n3, n4]⟩ .f32) (v : FVec Ideal u .f32)
    (h : (⟨5, ![n0, n1, n2, n3, n4]⟩ : Shape).ReducesTo [4] ⟨4, ![n0, n1, n2, n3]⟩) (hu : 0 < u.numel)
    (a : Fin n0) (b : Fin n1) (c : Fin n2) (d : Fin n3) :
    Host.reduce FloatOps.maximumf x v h hu (ix4 a b c d)
      = Finset.univ.fold max (v (Shape.Idx.first hu)) fun k : Fin n4 => x (ix5 a b c d k) := by
  pointwise []

/-- The largest score of a row, at an index. -/
theorem mx_apply (s) (u : Fin 2) (b : Fin 4) (h : Fin 8) (i : Fin 4096) :
    mx s (ix4 u b h i) = Finset.univ.fold max (Ideal.ofBits .f32 0xFF800000#32) (fun x : Fin 4352 => s (ix5 u b h i x)) :=
  hostMax5 s (constant S_ .f32 0xFF800000#32) reducesTo_S2x4x8x4096x4352_S2x4x8x4096_d4 h_S_ u b h i

/-- The queries' heads at an index. -/
theorem qh_apply (q) (u : Fin 2) (b : Fin 4) (h : Fin 8) (i : Fin 4096) (d : Fin 32) :
    qh q (ix5 u b h i d) = q (ix3 b i ⟨h.val * 64 + u.val * 32 + d.val, by omega⟩) := by
  pointwise [qh]

/-- The keys' heads at an index of the latent stream. -/
theorem kh_lat (k kc) (u : Fin 2) (b : Fin 4) (h : Fin 8) (i : Fin 4096) (d : Fin 32) :
    kh k kc (ix5 u b h (Fin.castAdd 256 i) d) = k (ix3 b i ⟨h.val * 64 + u.val * 32 + d.val, by omega⟩) := by
  have hi : (Fin.castAdd 256 i).val < 4096 := i.isLt
  have e : ∀ hh, (⟨(Fin.castAdd 256 i).val, hh⟩ : Fin 4096) = i := fun hh => Fin.ext rfl
  pointwise [kh, qh, ch]
  rw [dif_pos hi, e]

/-- The keys' heads at an index of the context stream. -/
theorem kh_ctx (k kc) (u : Fin 2) (b : Fin 4) (h : Fin 8) (i : Fin 256) (d : Fin 32) :
    kh k kc (ix5 u b h (Fin.natAdd 4096 i) d) = kc (ix3 b i ⟨h.val * 64 + u.val * 32 + d.val, by omega⟩) := by
  have hi : ¬ (Fin.natAdd 4096 i).val < 4096 := by rw [Fin.val_natAdd]; omega
  have e : ∀ hh, (⟨(Fin.natAdd 4096 i).val - 4096, hh⟩ : Fin 256) = i := fun hh => Fin.ext (by show (Fin.natAdd 4096 i).val - 4096 = i.val; rw [Fin.val_natAdd]; omega)
  pointwise [kh, qh, ch]
  rw [dif_neg hi, e]

/-- The values' heads at an index of the latent stream. -/
theorem vh_lat (k kc) (b : Fin 4) (h : Fin 8) (i : Fin 4096) (d : Fin 64) :
    vh k kc (ix4 b h (Fin.castAdd 256 i) d) = k (ix3 b i ⟨h.val * 64 + d.val, by omega⟩) := by
  have hi : (Fin.castAdd 256 i).val < 4096 := i.isLt
  have e : ∀ hh, (⟨(Fin.castAdd 256 i).val, hh⟩ : Fin 4096) = i := fun hh => Fin.ext rfl
  pointwise [vh]
  rw [dif_pos hi, e]

/-- The values' heads at an index of the context stream. -/
theorem vh_ctx (k kc) (b : Fin 4) (h : Fin 8) (i : Fin 256) (d : Fin 64) :
    vh k kc (ix4 b h (Fin.natAdd 4096 i) d) = kc (ix3 b i ⟨h.val * 64 + d.val, by omega⟩) := by
  have hi : ¬ (Fin.natAdd 4096 i).val < 4096 := by rw [Fin.val_natAdd]; omega
  have e : ∀ hh, (⟨(Fin.natAdd 4096 i).val - 4096, hh⟩ : Fin 256) = i := fun hh => Fin.ext (by show (Fin.natAdd 4096 i).val - 4096 = i.val; rw [Fin.val_natAdd]; omega)
  pointwise [vh]
  rw [dif_neg hi, e]

/-- The scores at an index. -/
theorem sc_apply (Q K) (u : Fin 2) (b : Fin 4) (h : Fin 8) (i : Fin 4096) (x : Fin 4352) :
    sc Q K (ix5 u b h i x) = Ideal.div (∑ d, Q (ix5 u b h i d) * K (ix5 u b h x d)) (Ideal.sqrt (Ideal.ofBits .f32 0x42000000#32)) := by
  pointwise [sc]

/-- A value per row at a key. -/
theorem bc_apply (v) (u : Fin 2) (b : Fin 4) (h : Fin 8) (i : Fin 4096) (x : Fin 4352) : bc v (ix5 u b h i x) = v (ix4 u b h i) := by
  pointwise [bc]

/-- The larger of minus infinity and a value. -/
theorem mxi_apply (v j) : mxi v j = max (Ideal.ofBits .f32 0xFF800000#32) (v j) := by
  pointwise [mxi]

/-- An exponential of a difference at an index. -/
theorem exp_sub_apply {s : Shape} (x y : FVec Ideal s .f32) (j : s.Idx) : Host.exp (subf x y) j = Ideal.exp (x j - y j) := rfl

/-- The exponentials at an index. -/
theorem ex_apply (s) (u : Fin 2) (b : Fin 4) (h : Fin 8) (i : Fin 4096) (x : Fin 4352) : ex s (ix5 u b h i x)
    = Ideal.exp (s (ix5 u b h i x) - max (Ideal.ofBits .f32 0xFF800000#32) (mx s (ix4 u b h i))) := by
  rw [ex, exp_sub_apply, bc_apply, mxi_apply]

/-- The softmax at an index. -/
theorem sm_apply (s) (u : Fin 2) (b : Fin 4) (h : Fin 8) (i : Fin 4096) (x : Fin 4352) :
    sm (ex s) (ix5 u b h i x) = soft (fun y : Fin 4352 => s (ix5 u b h i y)) x := by
  have e : ∀ t, sm t (ix5 u b h i x) = Ideal.div (t (ix5 u b h i x)) (∑ y, t (ix5 u b h i y)) := by
    intro t; pointwise [sm]
  rw [e, soft]
  simp only [ex_apply, mx_apply]

/-- The difference's factor. -/
theorem lam_apply (a b c d) (j) : lam a b c d j
    = Ideal.exp (∑ x, a (ix1 x) * b (ix1 x)) - Ideal.exp (∑ x, c (ix1 x) * d (ix1 x)) + Ideal.ofBits .f32 0x3E4CCCCD#32 := by
  pointwise [lam]

/-- The weight at an index. -/
theorem wt_apply (l a) (b : Fin 4) (h : Fin 8) (i : Fin 4096) (x : Fin 4352) :
    wt l a (ix4 b h i x) = a (ix5 0 b h i x) - l ix0 * a (ix5 1 b h i x) := by
  pointwise [wt]

/-- The weighted sum at an index. -/
theorem ov_apply (w V) (b : Fin 4) (h : Fin 8) (i : Fin 4096) (d : Fin 64) :
    ov w V (ix4 b h i d) = ∑ x, w (ix4 b h i x) * V (ix4 b h x d) := by
  pointwise [ov]

/-- The normalized head at an index. -/
theorem nrm_apply (o g) (b : Fin 4) (h : Fin 8) (i : Fin 4096) (d : Fin 64) :
    nrm o g (ix4 b h i d) = Cert.Attn.nrm (fun x => o (ix4 b h i x)) (g (ix1 d)) d := by
  pointwise [nrm, Cert.Attn.nrm]

/-- The row of a position of a batch entry. -/
def row (b : Fin 4) (i : Fin 4096) : Fin 16384 := ⟨b.val * 4096 + i.val, by omega⟩
/-- The lane of a head's lane. -/
def lane (h : Fin 8) (d : Fin 64) : Fin 512 := ⟨h.val * 64 + d.val, by omega⟩

/-- The result's rows at an index. -/
theorem rows_apply (y) (b : Fin 4) (h : Fin 8) (i : Fin 4096) (d : Fin 64) : rows y (ix2 (row b i) (lane h d)) = y (ix4 b h i d) := by
  have e : ∀ r l, rows y (ix2 r l) = y (ix4 ⟨r.val / 4096, by omega⟩ ⟨l.val / 64, by omega⟩ ⟨r.val % 4096, by omega⟩ ⟨l.val % 64, by omega⟩) := by
    intro r l; pointwise [rows]
  rw [e]
  have e1 : ∀ hh, (⟨(row b i).val / 4096, hh⟩ : Fin 4) = b := fun hh => Fin.ext (by show (b.val * 4096 + i.val) / 4096 = b.val; omega)
  have e2 : ∀ hh, (⟨(lane h d).val / 64, hh⟩ : Fin 8) = h := fun hh => Fin.ext (by show (h.val * 64 + d.val) / 64 = h.val; omega)
  have e3 : ∀ hh, (⟨(row b i).val % 4096, hh⟩ : Fin 4096) = i := fun hh => Fin.ext (by show (b.val * 4096 + i.val) % 4096 = i.val; omega)
  have e4 : ∀ hh, (⟨(lane h d).val % 64, hh⟩ : Fin 64) = d := fun hh => Fin.ext (by show (h.val * 64 + d.val) % 64 = d.val; omega)
  rw [e1, e2, e3, e4]

end Cert.Attn.Ref
-- ==== Proof.Finite.lean ====
/-
  What the precondition says of the queries and the keys, and the finiteness of the scores.
-/
module
public import proofs.«01_k».proof.Pre_finite
public import proofs.«01_k».proof.Proof.RowMath
public import Idealize.ShloMosaic.Lib.Pointwise

@[expose] public section
noncomputable section
namespace Cert.Attn.Fin3
open Idealize.ShloMosaic Cert.Pre_finite

/-- The predicate's side conditions. -/
theorem facts : Cert.Pre_finite.Facts where
  concatenates_S4x4096x512_S4x4096x512_S4x256x512_S4x8448x512_d1 := by decide
  bcast_S_S4x8448x512 := by decide

section
variable {n a b d N w : ℕ} (x : (⟨3, ![n, a, w]⟩ : Shape).Idx → EReal) (y : (⟨3, ![n, b, w]⟩ : Shape).Idx → EReal) (z : (⟨3, ![n, d, w]⟩ : Shape).Idx → EReal)
  (h : Shape.Concatenates [⟨3, ![n, a, w]⟩, ⟨3, ![n, b, w]⟩, ⟨3, ![n, d, w]⟩] ⟨3, ![n, N, w]⟩ 1) (p : Fin n) (l : Fin w)

/-- Three blocks along their middle axis, at a row of the first. -/
theorem cat3_a (i : Fin a) (hi : i.val < N) : concatenate ⟨3, ![n, N, w]⟩ 1 [⟨_, x⟩, ⟨_, y⟩, ⟨_, z⟩] h (ix3 p ⟨i.val, hi⟩ l) = x (ix3 p i l) := by
  rw [concatenate_cons_apply]
  simp only [concatenateAt]
  refine (dif_pos i.isLt).trans (congrArg x ?_)
  funext k
  match k with
  | 0 => rfl
  | 1 => rfl
  | 2 => rfl
/-- At a row of the second. -/
theorem cat3_b (i : Fin b) (hi : a + i.val < N) : concatenate ⟨3, ![n, N, w]⟩ 1 [⟨_, x⟩, ⟨_, y⟩, ⟨_, z⟩] h (ix3 p ⟨a + i.val, hi⟩ l) = y (ix3 p i l) := by
  rw [concatenate_cons_apply]
  simp only [concatenateAt]
  have e : a + i.val - a = i.val := by omega
  refine (dif_neg (by show ¬ a + i.val < a; omega)).trans ((dif_pos (by show a + i.val - a < b; omega)).trans (congrArg y ?_))
  funext k
  match k with
  | 0 => rfl
  | 1 => exact Fin.ext e
  | 2 => rfl
/-- At a row of the third. -/
theorem cat3_c (i : Fin d) (hi : a + b + i.val < N) : concatenate ⟨3, ![n, N, w]⟩ 1 [⟨_, x⟩, ⟨_, y⟩, ⟨_, z⟩] h (ix3 p ⟨a + b + i.val, hi⟩ l) = z (ix3 p i l) := by
  rw [concatenate_cons_apply]
  simp only [concatenateAt]
  have e : a + b + i.val - a - b = i.val := by omega
  refine (dif_neg (by show ¬ a + b + i.val < a; omega)).trans ((dif_neg (by show ¬ a + b + i.val - a < b; omega)).trans (congrArg z ?_))
  funext k
  match k with
  | 0 => rfl
  | 1 => exact Fin.ext e
  | 2 => rfl
end

/-- A finite extended real. -/
def Fine (x : EReal) : Prop := x ≠ ⊤ ∧ x ≠ ⊥

theorem ofBits_inf : Ideal.ofBits .f32 0x7F800000#32 = ⊤ := by
  simp [Ideal.ofBits, Ideal.ieee]

theorem fine_of (x : EReal) (h : IntOp.andi (FloatOps.cmpf (F := Ideal) (φ := .f32) .ogt x (Ideal.ofBits .f32 0xFF800000#32)) (FloatOps.cmpf (F := Ideal) (φ := .f32) .olt x (Ideal.ofBits .f32 0x7F800000#32)) = 1#1) : Fine x := by
  rw [ofBits_inf, ofBits_ninf] at h
  have h' : IntOp.andi (BitVec.ofBool (decide ((⊥ : EReal) < x))) (BitVec.ofBool (decide (x < (⊤ : EReal)))) = 1#1 := h
  constructor
  · rintro rfl; simp [IntOp.andi] at h'
  · rintro rfl; simp [IntOp.andi] at h'

/-- Under the precondition every query and every key is finite. -/
theorem fine_args [Cert.Pre_finite.Facts] (a0 a1 a2 a3 : FVec Ideal S32 .f32) (q : FVec Ideal S4x4096x512 .f32) (qc : FVec Ideal S4x256x512 .f32) (k : FVec Ideal S4x4096x512 .f32) (kc : FVec Ideal S4x256x512 .f32)
    (v : FVec Ideal S4x4096x512 .f32) (vc : FVec Ideal S4x256x512 .f32) (g : FVec Ideal S64 .f32)
    (h : Cert.Pre_finite.fn (F := Ideal) a0 a1 a2 a3 q qc k kc v vc g = fun _ => 1#1) :
    (∀ b i l, Fine (q (ix3 b i l))) ∧ (∀ b i l, Fine (k (ix3 b i l))) ∧ (∀ b i l, Fine (kc (ix3 b i l))) := by
  have hj : ∀ j, Fine (concatenate S4x8448x512 1 [⟨S4x4096x512, q⟩, ⟨S4x4096x512, k⟩, ⟨S4x256x512, kc⟩] Facts.concatenates_S4x4096x512_S4x4096x512_S4x256x512_S4x8448x512_d1 j) := fun j => fine_of _ (congrFun h j)
  refine ⟨fun b i l => ?_, fun b i l => ?_, fun b i l => ?_⟩
  · have := hj (ix3 b ⟨i.val, by omega⟩ l)
    rw [cat3_a (n := 4) (a := 4096) (b := 4096) (d := 256) (N := 8448) (w := 512)] at this
    exact this
  · have := hj (ix3 b ⟨4096 + i.val, by omega⟩ l)
    rw [cat3_b (n := 4) (a := 4096) (b := 4096) (d := 256) (N := 8448) (w := 512)] at this
    exact this
  · have := hj (ix3 b ⟨4096 + 4096 + i.val, by omega⟩ l)
    rw [cat3_c (n := 4) (a := 4096) (b := 4096) (d := 256) (N := 8448) (w := 512)] at this
    exact this

theorem fine_mul {x y : EReal} (hx : Fine x) (hy : Fine y) : Fine (x * y) := by
  lift x to ℝ using hx
  lift y to ℝ using hy
  exact ⟨EReal.coe_mul x y ▸ EReal.coe_ne_top _, EReal.coe_mul x y ▸ EReal.coe_ne_bot _⟩

theorem fine_add {x y : EReal} (hx : Fine x) (hy : Fine y) : Fine (x + y) := by
  lift x to ℝ using hx
  lift y to ℝ using hy
  exact ⟨EReal.coe_add x y ▸ EReal.coe_ne_top _, EReal.coe_add x y ▸ EReal.coe_ne_bot _⟩

/-- A finite sum of finite values is finite. -/
theorem fine_sum {n : ℕ} (f : Fin n → EReal) (h : ∀ i, Fine (f i)) : Fine (∑ i, f i) :=
  Finset.sum_induction f Fine (fun _ _ => fine_add) ⟨EReal.zero_ne_top, EReal.zero_ne_bot⟩ fun i _ => h i

/-- A score of finite queries and keys is finite. -/
theorem fine_score {n : ℕ} (q k : Fin n → EReal) (hq : ∀ i, Fine (q i)) (hk : ∀ i, Fine (k i)) :
    Fine (Ideal.div (∑ i, q i * k i) (Ideal.sqrt (Ideal.ofBits .f32 0x42000000#32))) := by
  rw [div_sqrt32]
  exact fine_mul (fine_sum _ fun i => fine_mul (hq i) (hk i)) ⟨EReal.coe_ne_top _, EReal.coe_ne_bot _⟩
end Cert.Attn.Fin3
-- ==== Proof.Attn.lean ====
/-
  The kernel's result is the reference's: one block's entry, then the whole array.
-/
module
public import proofs.«01_k».proof.Proof.KerArr
public import proofs.«01_k».proof.Proof.RefRead
public import proofs.«01_k».proof.Proof.Finite

@[expose] public section
noncomputable section
namespace Cert.Attn.Ker
open Idealize.ShloMosaic Idealize.ShloMosaic.TcCoe Cert.KernelIdeal Cert.KernelIdeal.Gen Cert.Attn Cert.Attn.Fin3

variable (m : (ℓ : Loc nD τ sig) → Buf (Elt Ideal) ℓ) (c : Dev nD) (t : Fin cfg0.N)

/-- The reference's weights of the arguments. -/
def refW : FVec Ideal ⟨4, ![4, 8, 4096, 4352]⟩ .f32 :=
  Ref.wt (Ref.lam (aL m c 0) (aL m c 1) (aL m c 2) (aL m c 3)) (Ref.sm (Ref.ex (Ref.sc (Ref.qh (aQ m c)) (Ref.kh (aK m c) (aKc m c)))))

/-- The reference's weighted sums of the arguments. -/
def refO : FVec Ideal ⟨4, ![4, 8, 4096, 64]⟩ .f32 := Ref.ov (refW m c) (Ref.vh (aV m c) (aVc m c))

/-- The reference's result of the arguments. -/
def refOut : FVec Ideal S16384x512 .bf16 := Ref.rows (Ref.nrm (refO m c) (aG m c))

/-- A row of the reference's scores. -/
def rsc (u : Fin 2) (b : Fin 4) (h : Fin 8) (i : Fin 4096) (x : Fin 4352) : EReal :=
  Ref.sc (Ref.qh (aQ m c)) (Ref.kh (aK m c) (aKc m c)) (ix5 u b h i x)

/-- The head of a point's pair. -/
def hh (e : Fin 2) : Fin 8 := ⟨2 * (gh t).val + e.val, by omega⟩
/-- The row of a point's block. -/
def ri (i : Fin 256) : Fin 4096 := ⟨(gi t).val * 256 + i.val, by omega⟩

variable (e u : Fin 2) (i : Fin 256)

/-- The kernel's scores against the latent keys, a power of two's exponent. -/
theorem S_lat (lo : ℕ) (hlo : lo = e.val * 64 + u.val * 32) (hl) :
    S lo hl (rw2 (t := .bf16) (iblk m c 1 t) i) (rw2 (t := .bf16) (X0_2 m c t)) = fun x : Fin 4096 => rsc m c u (gb t) (hh t e) (ri t i) (Fin.castAdd 256 x) * (L2 : EReal) := by
  subst hlo
  funext x
  rw [rsc, Ref.sc_apply, ← score_eq]
  refine Finset.sum_congr rfl fun d _ => ?_
  rw [q_read, kl_read, Ref.qh_apply, Ref.kh_lat]
  have e1 : (⟨(gh t).val * 128 + (e.val * 64 + u.val * 32 + d.val), by omega⟩ : Fin 512) = ⟨(hh t e).val * 64 + u.val * 32 + d.val, by have := (hh t e).isLt; omega⟩ :=
    Fin.ext (by show (gh t).val * 128 + (e.val * 64 + u.val * 32 + d.val) = (2 * (gh t).val + e.val) * 64 + u.val * 32 + d.val; omega)
  exact congrArg (fun l => aQ m c (ix3 (gb t) (ri t i) l) * (↑((√32)⁻¹ * L2) : EReal) * aK m c (ix3 (gb t) x l)) e1

/-- The same against the context keys. -/
theorem S_ctx (lo : ℕ) (hlo : lo = e.val * 64 + u.val * 32) (hl) :
    S lo hl (rw2 (t := .bf16) (iblk m c 1 t) i) (rw2 (t := .bf16) (iblk m c 3 t)) = fun x : Fin 256 => rsc m c u (gb t) (hh t e) (ri t i) (Fin.natAdd 4096 x) * (L2 : EReal) := by
  subst hlo
  funext x
  rw [rsc, Ref.sc_apply, ← score_eq]
  refine Finset.sum_congr rfl fun d _ => ?_
  rw [q_read, kc_read, Ref.qh_apply, Ref.kh_ctx]
  have e1 : (⟨(gh t).val * 128 + (e.val * 64 + u.val * 32 + d.val), by omega⟩ : Fin 512) = ⟨(hh t e).val * 64 + u.val * 32 + d.val, by have := (hh t e).isLt; omega⟩ :=
    Fin.ext (by show (gh t).val * 128 + (e.val * 64 + u.val * 32 + d.val) = (2 * (gh t).val + e.val) * 64 + u.val * 32 + d.val; omega)
  exact congrArg (fun l => aQ m c (ix3 (gb t) (ri t i) l) * (↑((√32)⁻¹ * L2) : EReal) * aKc m c (ix3 (gb t) x l)) e1

variable (hfine : ∀ u b h i x, rsc m c u b h i x ≠ ⊤ ∧ rsc m c u b h i x ≠ ⊥)
include hfine

/-- A head's weighted sum at a lane is the reference's. -/
theorem hdb_eq (lo : ℕ) (hlo : lo = e.val * 64) (hl) (d : Fin 64) (hd) :
    hdb ((iblk m c 0 t : FVec Ideal S1 .f32) (ix1 0)) lo hl (rw2 (t := .bf16) (iblk m c 1 t) i) (rw2 (t := .bf16) (X0_2 m c t)) (rw2 (t := .bf16) (iblk m c 3 t)) (rw2 (t := .bf16) (X0_4 m c t)) (rw2 (t := .bf16) (iblk m c 5 t)) ⟨lo + d.val, hd⟩
      = refO m c (ix4 (gb t) (hh t e) (ri t i) d) := by
  subst hlo
  have el : (iblk m c 0 t : FVec Ideal S1 .f32) (ix1 0) = Ref.lam (aL m c 0) (aL m c 1) (aL m c 2) (aL m c 3) ix0 := by
    rw [l_read, Ref.lam_apply]
  have e1 : (⟨(gh t).val * 128 + (e.val * 64 + d.val), by omega⟩ : Fin 512) = ⟨(hh t e).val * 64 + d.val, by have := (hh t e).isLt; omega⟩ :=
    Fin.ext (by show (gh t).val * 128 + (e.val * 64 + d.val) = (2 * (gh t).val + e.val) * 64 + d.val; omega)
  have ew : ∀ x : Fin 4352, refW m c (ix4 (gb t) (hh t e) (ri t i) x) = wgt (Ref.lam (aL m c 0) (aL m c 1) (aL m c 2) (aL m c 3) ix0) (rsc m c 0 (gb t) (hh t e) (ri t i)) (rsc m c 1 (gb t) (hh t e) (ri t i)) x := by
    intro x
    rw [refW, Ref.wt_apply, Ref.sm_apply, Ref.sm_apply]
    rfl
  rw [hdb, Cert.Attn.Ker.hd, S_lat m c t e 0 i _ (by simp), S_lat m c t e 1 i _ (by simp), S_ctx m c t e 0 i _ (by simp), S_ctx m c t e 1 i _ (by simp), el, refO, Ref.ov_apply]
  refine Eq.trans ?_ (Fin.sum_univ_add (a := 4096) (b := 256) _).symm
  congr 1
  · refine Finset.sum_congr rfl fun x _ => ?_
    rw [ew, vl_read, Ref.vh_lat, ← kwt_eq (a := 4096) (b := 256) _ _ _ (by norm_num) (hfine _ _ _ _) (hfine _ _ _ _)]
    exact congrArg (_ * ·) (congrArg (fun l => aV m c (ix3 (gb t) x l)) e1)
  · refine Finset.sum_congr rfl fun x _ => ?_
    rw [ew, vc_read, Ref.vh_ctx, ← kwt_eq (a := 4096) (b := 256) _ _ _ (by norm_num) (hfine _ _ _ _) (hfine _ _ _ _)]
    exact congrArg (_ * ·) (congrArg (fun l => aVc m c (ix3 (gb t) x l)) e1)

/-- An entry of a point's block is the reference's entry there. -/
theorem blk_eq (lo : ℕ) (hlo : lo = e.val * 64) (hl) (d : Fin 64) (hd)
    (ho : (outsAt0 m c t : Vec Ideal S256x128 .bf16) (ix2 i ⟨lo + d.val, hd⟩)
      = nrm (fun d' => hdb ((iblk m c 0 t : FVec Ideal S1 .f32) (ix1 0)) lo hl (rw2 (t := .bf16) (iblk m c 1 t) i) (rw2 (t := .bf16) (X0_2 m c t)) (rw2 (t := .bf16) (iblk m c 3 t)) (rw2 (t := .bf16) (X0_4 m c t)) (rw2 (t := .bf16) (iblk m c 5 t)) ⟨lo + d'.val, by omega⟩)
        ((iblk m c 6 t : FVec Ideal S1x128 .f32) (ix2 0 ⟨lo + d.val, hd⟩)) d) :
    (outsAt0 m c t : Vec Ideal S256x128 .bf16) (ix2 i ⟨lo + d.val, hd⟩) = refOut m c (ix2 (Ref.row (gb t) (ri t i)) (Ref.lane (hh t e) d)) := by
  rw [ho, refOut, Ref.rows_apply, Ref.nrm_apply, g_read]
  have eg : (⟨(lo + d.val) % 64, by omega⟩ : Fin 64) = d := Fin.ext (by show (lo + d.val) % 64 = d.val; omega)
  have es : (fun d' : Fin 64 => hdb ((iblk m c 0 t : FVec Ideal S1 .f32) (ix1 0)) lo hl (rw2 (t := .bf16) (iblk m c 1 t) i) (rw2 (t := .bf16) (X0_2 m c t)) (rw2 (t := .bf16) (iblk m c 3 t)) (rw2 (t := .bf16) (X0_4 m c t)) (rw2 (t := .bf16) (iblk m c 5 t)) ⟨lo + d'.val, by omega⟩)
      = fun d' => refO m c (ix4 (gb t) (hh t e) (ri t i) d') := funext fun d' => hdb_eq m c t e i hfine lo hlo hl d' _
  rw [es]
  exact congrArg (fun k => nrm _ (aG m c (ix1 k)) d) eg

/-- The kernel's array is the reference's. -/
theorem arr_eq : (dats m 0 c).arrAt 7 cfg0.N = refOut m c := by
  refine (dats m 0 c).arrAt_eq_of_covers 7 _ covers7 fun t hf y => ?_
  blk_simp
  rw [after0_7]
  obtain ⟨i, z, rfl⟩ : ∃ (i : Fin 256) (z : Fin 128), y = ix2 i z := ⟨y 0, y 1, eq_ix2 y⟩
  show (outsAt0 m c t : Vec Ideal S256x128 .bf16) (ix2 i z) = refOut m c ((win0_7.blk t).view.emb (ix2 i z))
  rw [emb7]
  have er : (⟨((gb t).val * 16 + (gi t).val) * 256 + i.val, by omega⟩ : Fin 16384) = Ref.row (gb t) (ri t i) :=
    Fin.ext (by show ((gb t).val * 16 + (gi t).val) * 256 + i.val = (gb t).val * 4096 + ((gi t).val * 256 + i.val); omega)
  rw [er]
  by_cases hz : z.val < 64
  · have ez : z = ⟨0 + (⟨z.val, hz⟩ : Fin 64).val, by omega⟩ := Fin.ext (by show z.val = 0 + z.val; omega)
    have el : (⟨(gh t).val * 128 + z.val, by omega⟩ : Fin 512) = Ref.lane (hh t 0) ⟨z.val, hz⟩ :=
      Fin.ext (by show (gh t).val * 128 + z.val = (2 * (gh t).val + 0) * 64 + z.val; omega)
    rw [el, ← blk_eq m c t 0 i hfine 0 rfl (by omega) ⟨z.val, hz⟩ _ (blk_low m c t i ⟨z.val, hz⟩)]
    exact congrArg (fun z => (outsAt0 m c t : Vec Ideal S256x128 .bf16) (ix2 i z)) ez
  · have ez : z = ⟨64 + (⟨z.val - 64, by omega⟩ : Fin 64).val, by show 64 + (z.val - 64) < 128; omega⟩ := Fin.ext (by show z.val = 64 + (z.val - 64); omega)
    have el : (⟨(gh t).val * 128 + z.val, by omega⟩ : Fin 512) = Ref.lane (hh t 1) ⟨z.val - 64, by omega⟩ :=
      Fin.ext (by show (gh t).val * 128 + z.val = (2 * (gh t).val + 1) * 64 + (z.val - 64); omega)
    rw [el, ← blk_eq m c t 1 i hfine 64 rfl (by omega) ⟨z.val - 64, by omega⟩ _ (blk_high m c t i ⟨z.val - 64, by omega⟩)]
    exact congrArg (fun z => (outsAt0 m c t : Vec Ideal S256x128 .bf16) (ix2 i z)) ez

omit hfine in
/-- The scores of finite queries and keys are finite. -/
theorem rsc_fine (hq : ∀ b i l, Fine (aQ m c (ix3 b i l))) (hk : ∀ b i l, Fine (aK m c (ix3 b i l))) (hkc : ∀ b i l, Fine (aKc m c (ix3 b i l)))
    (u b h i x) : rsc m c u b h i x ≠ ⊤ ∧ rsc m c u b h i x ≠ ⊥ := by
  rw [rsc, Ref.sc_apply]
  refine fine_score _ _ (fun d => by rw [Ref.qh_apply]; exact hq _ _ _) (fun d => ?_)
  revert x
  refine Fin.addCases (m := 4096) (n := 256) (fun y => ?_) (fun y => ?_)
  · rw [Ref.kh_lat]; exact hk _ _ _
  · rw [Ref.kh_ctx]; exact hkc _ _ _
end Cert.Attn.Ker
-- ==== Proof.AttnClaim.lean ====
/-
  The attention's claims: the two programs end with equal results, and the reference keeps its arguments.
-/
module
public import proofs.«01_k».proof.Proof.Attn
public import proofs.«01_k».proof.Proof.Gen.ReferenceIdeal
public import proofs.«01_k».proof.Defs
public import Idealize.ShloMosaic.Lib.Claim
public import Idealize.ShloMosaic.Lib.Quiescent

@[expose] public section
noncomputable section
namespace Cert.Attn
open Idealize.ShloMosaic Idealize.ShloMosaic.TcCoe Idealize.SL.Sem

/-- The reference keeps its arguments and ends with every semaphore counter at zero. -/
theorem ref_frame : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- On finite queries and keys the kernel's result is the reference's. -/
theorem same : Cert.algebraic_KernelIdeal_ReferenceIdeal_pre_finite (hKernelIdeal := Cert.KernelIdeal.Gen.facts)
    (hReferenceIdeal := Cert.ReferenceIdeal.Gen.facts) (hPre_finite := Fin3.facts) := by
  intro m ρ m' ρ' hpre hagree
  refine ⟨fun c => (Ker.refOut m c : FVec Ideal Cert.KernelIdeal.S16384x512 .bf16), ?_, ?_⟩
  · refine (θ_run Cert.KernelIdeal.defs _ _).mono (fun r h c => ⟨(h c).1.trans ?_, (h c).2⟩) (Cert.KernelIdeal.Value.run_blocks (F := Ideal) m ρ)
    have hf := @Fin3.fine_args Fin3.facts _ _ _ _ _ _ _ _ _ _ _ (hpre c)
    exact Ker.arr_eq m c (Ker.rsc_fine m c hf.1 hf.2.1 hf.2.2)
  · refine (θ_run Cert.ReferenceIdeal.defs _ _).mono (fun r h c => ⟨(h c).1.trans ?_, (h c).2⟩) (Cert.ReferenceIdeal.Value.run (F := Ideal) m' ρ')
    refine (Ref.res_eq m' c).trans ?_
    obtain ⟨h0, h1, h2, h3, h4, h5, h6, h7, h8, h9, h10⟩ := hagree c
    rw [h0, h1, h2, h3, h4, h6, h7, h8, h9, h10]
    rfl

end Cert.Attn
-- ==== Proof.ExpRun.lean ====
/- The run of the experts' call: the launch of its pipeline at the two prefetched tables, each block's expert and the
   number of blocks in use, as the host lines before it leave them; the body's two cases; the frame claim. The
   set-up of the launch follows the generated one of a call with prefetched tables. -/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.VecWindow
public import Idealize.ShloMosaic.Lib.Tactic
public import Idealize.ShloMosaic.Lib.WordCmp
public import Idealize.ShloMosaic.Lib.Claim

@[expose] public section

set_option maxRecDepth 16384

noncomputable section

namespace Cert.Exp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal Cert.ExpertsIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers when the call is entered, after the host lines. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

/-- The host lines of this stretch allocate nothing. -/
theorem hostOps0_fresh : (hostOps0 : List (HloOp τ sig (Elt F))).Forall fun op => op.fresh = ∅ := by
  simp only [List.Forall]; repeat' constructor
/-- The host lines of this stretch allocate nothing. -/
theorem hostOps0_1_fresh : (hostOps0_1 : List (HloOp τ sig (Elt F))).Forall fun op => op.fresh = ∅ := by
  simp only [List.Forall]; repeat' constructor
/-- The host lines of this stretch allocate nothing. -/
theorem hostOps0_2_fresh : (hostOps0_2 : List (HloOp τ sig (Elt F))).Forall fun op => op.fresh = ∅ := by
  simp only [List.Forall]; repeat' constructor
/-- The host lines of this stretch allocate nothing. -/
theorem hostOps0_3_fresh : (hostOps0_3 : List (HloOp τ sig (Elt F))).Forall fun op => op.fresh = ∅ := by
  simp only [List.Forall]; repeat' constructor
/-- The host lines of this stretch allocate nothing. -/
theorem hostOps0_4_fresh : (hostOps0_4 : List (HloOp τ sig (Elt F))).Forall fun op => op.fresh = ∅ := by
  simp only [List.Forall]; repeat' constructor
/-- The host lines of this stretch allocate nothing. -/
theorem hostOps0_5_fresh : (hostOps0_5 : List (HloOp τ sig (Elt F))).Forall fun op => op.fresh = ∅ := by
  simp only [List.Forall]; repeat' constructor
/-- The host lines of this stretch allocate nothing. -/
theorem hostOps0_6_fresh : (hostOps0_6 : List (HloOp τ sig (Elt F))).Forall fun op => op.fresh = ∅ := by
  simp only [List.Forall]; repeat' constructor

set_option maxHeartbeats 800000 in
/-- The program up to the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-! No host line writes an argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
/-- The host lines leave this argument as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
/-- The host lines leave this argument as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
/-- The host lines leave this argument as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
/-- The host lines leave this argument as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- The two tables' contents at the call. -/
def tbl : pre0.Contents (Elt F) := fun j => V m (0 : Dev nD) (pre0.ref j)
/-- The tables hold what the host lines put there. -/
theorem V_pre (c : Dev nD) (j : Fin 2) : V m c (pre0.ref j) = tbl m j := by
  obtain rfl : c = 0 := Subsingleton.elim _ _; rfl
/-- The experts named by the table exist: each window's block lies in its array. -/
abbrev Ok : Prop := ok0 (F := F) (tbl m)
/-- The tables as admissible ones. -/
abbrev adm (hO : Ok m) : (pcfg0 (F := F)).Adm := ⟨tbl m, hO⟩
/-- The pipeline at these tables. -/
abbrev cfgM (hO : Ok m) : Pipeline.Cfg sig Λ₀ := cfg0 (adm m hO)

/-- The table of the blocks' experts. -/
abbrev tbM0 : Memref sig .tc .smem S608 .i32 := Memref.whole main_v21
/-- It is a whole buffer. -/
abbrev htbM0 : tbM0.IsWhole := Memref.isWhole_whole _
/-- The table with the number of blocks in use. -/
abbrev tbM1 : Memref sig .tc .smem S1 .i32 := Memref.whole main_v25
/-- It is a whole buffer. -/
abbrev htbM1 : tbM1.IsWhole := Memref.isWhole_whole _
/-- The contents of a table's buffer. -/
abbrev TbBuf (c : Dev nD) {S : Shape} {e : EltTy} (M : Memref sig .tc .smem S e) : Type := Buf (Elt F) (M.view.loc (c : Thread nD τ))
/-- A table's buffer at given contents. -/
abbrev tbPt (c : Dev nD) {S : Shape} {e : EltTy} (M : Memref sig .tc .smem S e) (f : TbBuf (F := F) c M) : sProp 𝕄 :=
  M.view.loc (c : Thread nD τ) ↦{fullShare.right} f

/-- The two tables' buffers, one beside the other. -/
theorem PhiT_eq (c : Dev nD) : (Pipeline.ΦT pre0 (tbl m) c : sProp 𝕄) = iprop(tbPt c tbM0 (tbl m 0) ∗ tbPt c tbM1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- A window's block at a point. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The window's staging buffer at a step. -/
abbrev ms0 (hO : Ok m) (t : Fin (cfgM m hO).N) : Memref sig .tc .vmem S256x1024 .f32 := spec0_0.stage ((cfgM m hO).slots t 0)
/-- The staging buffer is a whole one. -/
abbrev hs0 (hO : Ok m) (t : Fin (cfgM m hO).N) : (ms0 m hO t).IsWhole := hstage0_0 (((cfgM m hO).slots t 0).cast nbuf0_0)
/-- The window's staging buffer at a step. -/
abbrev ms1 (hO : Ok m) (t : Fin (cfgM m hO).N) : Memref sig .tc .vmem S1x1024x256 .bf16 := spec0_1.stage ((cfgM m hO).slots t 1)
/-- The staging buffer is a whole one. -/
abbrev hs1 (hO : Ok m) (t : Fin (cfgM m hO).N) : (ms1 m hO t).IsWhole := hstage0_1 (((cfgM m hO).slots t 1).cast nbuf0_1)
/-- The window's staging buffer at a step. -/
abbrev ms2 (hO : Ok m) (t : Fin (cfgM m hO).N) : Memref sig .tc .vmem S1x1024x256 .bf16 := spec0_2.stage ((cfgM m hO).slots t 2)
/-- The staging buffer is a whole one. -/
abbrev hs2 (hO : Ok m) (t : Fin (cfgM m hO).N) : (ms2 m hO t).IsWhole := hstage0_2 (((cfgM m hO).slots t 2).cast nbuf0_2)
/-- The window's staging buffer at a step. -/
abbrev ms3 (hO : Ok m) (t : Fin (cfgM m hO).N) : Memref sig .tc .vmem S1x256x1024 .bf16 := spec0_3.stage ((cfgM m hO).slots t 3)
/-- The staging buffer is a whole one. -/
abbrev hs3 (hO : Ok m) (t : Fin (cfgM m hO).N) : (ms3 m hO t).IsWhole := hstage0_3 (((cfgM m hO).slots t 3).cast nbuf0_3)
/-- The window's staging buffer at a step. -/
abbrev ms4 (hO : Ok m) (t : Fin (cfgM m hO).N) : Memref sig .tc .vmem S256x1024 .f32 := spec0_4.stage ((cfgM m hO).slots t 4)
/-- The staging buffer is a whole one. -/
abbrev hs4 (hO : Ok m) (t : Fin (cfgM m hO).N) : (ms4 m hO t).IsWhole := hstage0_4 (((cfgM m hO).slots t 4).cast nbuf0_4)

/-- The number of blocks in use, a word. -/
def nu : BitVec 32 := (V m (0 : Dev nD) main_v25 : S1.Idx → BitVec 32) (fun a => ⟨0, by fin_cases a; decide⟩)

/-- The second table's one entry. -/
theorem nu_eq (y : S1.Idx) : (tbl m 1 : S1.Idx → BitVec 32) y = nu m := by
  refine congrArg (V m (0 : Dev nD) main_v25 : S1.Idx → BitVec 32) (funext fun a => Fin.ext ?_)
  have h := (y a).isLt
  have h1 : S1.size a = 1 := by fin_cases a; rfl
  show (y a).val = 0
  omega

/-- The block is in use or it is not. -/
theorem cond_iff (i : grid0.Coords) (v : BitVec 32) : k0_cond2 i v = 1#1 ↔ ¬ k0_cond1 i v = 1#1 := by
  unfold k0_cond1 k0_cond2
  show IntOp.cmpi .ne ((IntOp.cmpi .sge (BitVec.ofNat 32 (i 0).val) v).setWidth 32) 0#32 = 1#1 ↔ ¬ IntOp.cmpi .ne ((IntOp.cmpi .slt (BitVec.ofNat 32 (i 0).val) v).setWidth 32) 0#32 = 1#1
  generalize BitVec.ofNat 32 (i 0).val = a
  rw [WordCmp.cmpi_sge_eq, WordCmp.cmpi_slt_eq]
  by_cases h : a.toInt < v.toInt
  · rw [decide_eq_true h, decide_eq_false (not_le.mpr h)]; decide
  · rw [decide_eq_false h, decide_eq_true (not_lt.mp h)]; decide

/-- What the body leaves in the output's buffer. -/
def outB (hO : Ok m) (c : Dev nD) (t : Fin (cfgM m hO).N) : Vec F S256x1024 .f32 :=
  if k0_cond1 (grid0.coords t) (nu m) = 1#1 then k0_pay1 (iblk m hO c 0 t) (iblk m hO c 1 t) (iblk m hO c 2 t) (iblk m hO c 3 t) else k0_pay2

/-- The proof data. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outB m hO c t
  Φ _ := iprop(Pipeline.ΦA spec0 c ∗ Pipeline.ΦT pre0 (tbl m) c)
  q _ := fullShare
  owed _ := 0

/-- Each window's array before the call. -/
theorem A_eq (hO : Ok m) (c : Dev nD) (w : Fin (cfgM m hO).W) : (dats m hO 0 c).A w = V m c (Pipeline.arrRef spec0 w) := by
  dsimp only [dats]

/-- What the window's buffer holds after a step. -/
theorem after0 (hO : Ok m) (c : Dev nD) (t : Fin (cfgM m hO).N) : (dats m hO 0 c).after 0 t = iblk m hO c 0 t := by dsimp only [dats]; try rfl
/-- What the window's buffer holds after a step. -/
theorem after1 (hO : Ok m) (c : Dev nD) (t : Fin (cfgM m hO).N) : (dats m hO 0 c).after 1 t = iblk m hO c 1 t := by dsimp only [dats]; try rfl
/-- What the window's buffer holds after a step. -/
theorem after2 (hO : Ok m) (c : Dev nD) (t : Fin (cfgM m hO).N) : (dats m hO 0 c).after 2 t = iblk m hO c 2 t := by dsimp only [dats]; try rfl
/-- What the window's buffer holds after a step. -/
theorem after3 (hO : Ok m) (c : Dev nD) (t : Fin (cfgM m hO).N) : (dats m hO 0 c).after 3 t = iblk m hO c 3 t := by dsimp only [dats]; try rfl
/-- What the window's buffer holds after a step. -/
theorem after4 (hO : Ok m) (c : Dev nD) (t : Fin (cfgM m hO).N) : (dats m hO 0 c).after 4 t = outB m hO c t := by dsimp only [dats]; try rfl

/-- What the window's buffer holds before a step. -/
theorem before0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
/-- What the window's buffer holds before a step. -/
theorem before1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
/-- What the window's buffer holds before a step. -/
theorem before2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
/-- What the window's buffer holds before a step. -/
theorem before3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-- Equal arguments in all four places. -/
theorem congrArg4 {α β γ δ ε : Type _} (f : α → β → γ → δ → ε) {a a' : α} {b b' : β} {c c' : γ} {d d' : δ} (ha : a = a') (hb : b = b') (hc : c = c') (hd : d = d') :
    f a b c d = f a' b' c' d' := by subst ha hb hc hd; rfl

set_option maxHeartbeats 1000000 in
/-- The body on a block that is used: the expert's output of the block's rows is stored. -/
theorem run_used (c : Dev nD) (i : grid0.Coords) (arg3 : Memref sig .tc .vmem S256x1024 .f32) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x256x1024 .bf16) (harg6 : arg6.IsWhole) (arg7 : Memref sig .tc .vmem S256x1024 .f32) (harg7 : arg7.IsWhole)
    (x0 : Vec F S256x1024 .f32) (x1 : Vec F S1x1024x256 .bf16) (x2 : Vec F S1x1024x256 .bf16) (x3 : Vec F S1x256x1024 .bf16) (xt0 : TbBuf c tbM0) (xt1 : TbBuf c tbM1)
    (h1 : ∀ y, k0_cond1 i (xt1 y) = 1#1) (h2 : ∀ y, ¬ k0_cond2 i (xt1 y) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt c tbM0 xt0 ∗ tbPt c tbM1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k0_pay1 x0 x1 x2 x3) ∗ tbPt c tbM0 xt0 ∗ tbPt c tbM1 xt1) -∗ K ⟨⟩))
      ⊢ wp frame (wpE (defs₀ (F := F)) Variants.none c none) E (cc0_expert_ffn i tbM0 htbM0 tbM1 htbM1 arg3 harg3 arg4 harg4 arg5 harg5 arg6 harg6 arg7 harg7) K := by
  simp only [cc0_expert_ffn_eq_skeleton]; unfold cc0_expert_ffn_skel
  unfold owns
  iintro ⟨⟨%f0, %hf0, H0⟩, ⟨%f1, %hf1, H1⟩, ⟨%f2, %hf2, H2⟩, ⟨%f3, %hf3, H3⟩, ⟨%d4, %f4, -, H4⟩, HT0, HT1, Hk⟩
  obtain rfl := harg3.eq_unread hf0; obtain rfl := harg4.eq_unread hf1; obtain rfl := harg5.eq_unread hf2; obtain rfl := harg6.eq_unread hf3
  sl_exec (disch := first | exact h1 _ | exact h2 _)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    refine (View.read_writes_full arg7.view f4 _ _ []).trans ?_
    exact congrArg4 k0_pay1 ((View.readAt_full arg3.view _ _).trans (harg3.read_unread _)) ((View.readAt_full arg4.view _ _).trans (harg4.read_unread _))
      ((View.readAt_full arg5.view _ _).trans (harg5.read_unread _)) ((View.readAt_full arg6.view _ _).trans (harg6.read_unread _))
  isplitl [HT0]; · iexact HT0
  iexact HT1

set_option maxHeartbeats 1000000 in
/-- The body on a block that is not used: zeros are stored. -/
theorem run_unused (c : Dev nD) (i : grid0.Coords) (arg3 : Memref sig .tc .vmem S256x1024 .f32) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x256x1024 .bf16) (harg6 : arg6.IsWhole) (arg7 : Memref sig .tc .vmem S256x1024 .f32) (harg7 : arg7.IsWhole)
    (x0 : Vec F S256x1024 .f32) (x1 : Vec F S1x1024x256 .bf16) (x2 : Vec F S1x1024x256 .bf16) (x3 : Vec F S1x256x1024 .bf16) (xt0 : TbBuf c tbM0) (xt1 : TbBuf c tbM1)
    (h1 : ∀ y, ¬ k0_cond1 i (xt1 y) = 1#1) (h2 : ∀ y, k0_cond2 i (xt1 y) = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt c tbM0 xt0 ∗ tbPt c tbM1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k0_pay2 (F := F)) ∗ tbPt c tbM0 xt0 ∗ tbPt c tbM1 xt1) -∗ K ⟨⟩))
      ⊢ wp frame (wpE (defs₀ (F := F)) Variants.none c none) E (cc0_expert_ffn i tbM0 htbM0 tbM1 htbM1 arg3 harg3 arg4 harg4 arg5 harg5 arg6 harg6 arg7 harg7) K := by
  simp only [cc0_expert_ffn_eq_skeleton]; unfold cc0_expert_ffn_skel
  unfold owns
  iintro ⟨⟨%f0, %hf0, H0⟩, ⟨%f1, %hf1, H1⟩, ⟨%f2, %hf2, H2⟩, ⟨%f3, %hf3, H3⟩, ⟨%d4, %f4, -, H4⟩, HT0, HT1, Hk⟩
  obtain rfl := harg3.eq_unread hf0; obtain rfl := harg4.eq_unread hf1; obtain rfl := harg5.eq_unread hf2; obtain rfl := harg6.eq_unread hf3
  sl_exec (disch := first | exact h1 _ | exact h2 _)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    exact View.read_writes_full arg7.view f4 _ _ []
  isplitl [HT0]; · iexact HT0
  iexact HT1

/-- The kernel body at a point. -/
abbrev bodyAt (a : (pcfg0 (F := F)).Adm) (t : Fin (cfg0 a).N) : Prog (TpuEff nD τ sig (Elt F) Λ₀ .tc) PUnit :=
  cc0_expert_ffn (grid0.coords t) (Memref.whole main_v21) (Memref.isWhole_whole _) (Memref.whole main_v25) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

/-- What the body starts from at a step. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d)))

/-- What the body leaves at a step. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t))

set_option maxHeartbeats 800000 in
/-- The body at any point. -/
theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before0, before1, before2, before3]
  rw [show (dats m hO 0 c).Φ t.succ = (dats m hO 0 c).Φ t.castSucc from rfl,
    show (dats m hO 0 c).owesAt () t.succ = (dats m hO 0 c).owesAt () t.castSucc from rfl,
    after0, after1, after2, after3, after4]
  rw [show (dats m hO 0 c).Φ t.castSucc = iprop(Pipeline.ΦA spec0 c ∗ Pipeline.ΦT pre0 (tbl m) c) from rfl, PhiT_eq]
  unfold outB
  iintro ⟨⟨HΦ, ⟨HT0, HT1⟩⟩, Ho, ⟨%d0, H0⟩, ⟨%d1, H1⟩, ⟨%d2, H2⟩, ⟨%d3, H3⟩, ⟨%d4, H4⟩⟩
  by_cases h : k0_cond1 (grid0.coords t) (nu m) = 1#1
  · simp only [if_pos h]
    iapply (run_used c (grid0.coords t) _ _ _ _ _ _ _ _ _ _ (iblk m hO c 0 t) (iblk m hO c 1 t) (iblk m hO c 2 t) (iblk m hO c 3 t) (tbl m 0) (tbl m 1) (fun y => (congrArg (fun v => k0_cond1 (grid0.coords t) v) (nu_eq m y)).trans h) (fun y e => (cond_iff _ _).mp ((congrArg (fun v => k0_cond2 (grid0.coords t) v) (nu_eq m y)).symm.trans e) h) Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, H4, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    iexact H4
  · simp only [if_neg h]
    iapply (run_unused c (grid0.coords t) _ _ _ _ _ _ _ _ _ _ (iblk m hO c 0 t) (iblk m hO c 1 t) (iblk m hO c 2 t) (iblk m hO c 3 t) (tbl m 0) (tbl m 1) (fun y e => h ((congrArg (fun v => k0_cond1 (grid0.coords t) v) (nu_eq m y)).symm.trans e)) (fun y => (congrArg (fun v => k0_cond2 (grid0.coords t) v) (nu_eq m y)).trans ((cond_iff _ _).mpr h)) Set.univ _)
    isplitl [H0]; · iexact H0
    isplitl [H1]; · iexact H1
    isplitl [H2]; · iexact H2
    isplitl [H3]; · iexact H3
    isplitl [H4]; · iexists _; iexact H4
    isplitl [HT0]; · iexact HT0
    isplitl [HT1]; · iexact HT1
    iintro ⟨H0, H1, H2, H3, H4, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    isplitl [H3]; · iexact H3
    iexact H4

/-- The body's label runs the expert's kernel at the step's buffers. -/
theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

/-- No point leaves the output's buffer as it was, whatever the tables hold. -/
theorem idle0_4 (pf : pre0.Contents (Elt F)) (i : grid0.Coords) : idle0 pf 4 i = false := by
  show (!(k0_cond1 i _ == 1#1) && !(k0_cond2 i _ == 1#1)) = false
  generalize pf.atD 1 ![0] = v
  by_cases h : k0_cond1 i v = 1#1
  · rw [h]; rfl
  · rw [(cond_iff _ _).mpr h]; simp

/-- The output window is written at every step. -/
theorem idle_at (a : (pcfg0 (F := F)).Adm) (i : grid0.Coords) : (cfg0 a).idle (4 : Fin 5) i = false := by
  have h : (cfg0 a).idle = idle0 a.1 := rfl
  exact (congrFun (congrFun h 4) i).trans (idle0_4 a.1 i)

set_option maxHeartbeats 1600000 in
/-- The body obligation, at every point. -/
theorem body_obligation (hO : Ok m) (c : Dev nD) : BodyObligation (dats (F := F) m hO 0 c) (defs₀ (F := F)) Variants.none () Set.univ := fun t => by
  rw [bigSep_W0, bigSep_W0, defs₀_row m hO]
  rw [idle_at]
  exact triple_restated (sound_body m hO c t) rfl .rfl fun _ => .rfl

set_option backward.isDefEq.respectTransparency.types false in
/-- The run, every counter at zero at its end. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

end Cert.Exp

end
-- ==== Proof.ExpHost.lean ====
/- The host lines before the experts' call, read: the running sums of the experts' padded counts, each block's expert,
   the number of blocks in use; and the experts exist. -/
module

public import proofs.«01_k».proof.Proof.ExpRun
public import proofs.«01_k».proof.Proof.Gen.ExpertsIdeal

@[expose] public section

set_option maxRecDepth 16384

noncomputable section

namespace Cert.Exp

open Idealize.ShloMosaic Idealize.ShloMosaic.TcCoe Idealize.SL.Sem
open Cert.ExpertsIdeal Cert.ExpertsIdeal.Gen

variable {F : FTy → Type} [FloatOps F]

/-- A scalar at each of the experts. -/
abbrev all64 (x : IVec S_ 32) : IVec S64 32 := broadcastInDim S64 ![] bcast_S_S64 x
/-- A scalar at each of the blocks. -/
abbrev all608 (x : IVec S_ 32) : IVec S608 32 := broadcastInDim S608 ![] bcast_S_S608 x

/-- The quotient rounded down, of a vector over the experts. -/
def fdiv64 (x : IVec S64 32) (d : IVec S_ 32) : IVec S64 32 :=
  select (andi (cmpi .ne (signi x) (all64 (signi d))) (cmpi .ne (Host.remsi x (all64 d)) (all64 (constantI S_ 32 0#32))))
    (subi (Host.divsi x (all64 d)) (all64 (constantI S_ 32 1#32))) (Host.divsi x (all64 d))

/-- The quotient rounded down, of a scalar. -/
def fdiv (x d : IVec S_ 32) : IVec S_ 32 :=
  select (andi (cmpi .ne (signi x) (signi d)) (cmpi .ne (Host.remsi x d) (constantI S_ 32 0#32)))
    (subi (Host.divsi x d) (constantI S_ 32 1#32)) (Host.divsi x d)

/-- The running sums of the counts, each count padded to whole blocks. -/
def cum (x : FVec F S64x1 .f32) : IVec S64 32 :=
  Host.reduceWindow IntOp.addi ![64] ![1] ![63] ![0]
    (muli (fdiv64 (subi (addi (fptosi 32 (shapeCast S64 x shapeCasts_S64x1_S64)) (all64 (constantI S_ 32 256#32))) (all64 (constantI S_ 32 1#32)))
      (constantI S_ 32 256#32)) (all64 (constantI S_ 32 256#32)))
    (broadcastInDim S_ ![] bcast_S_S_ (constantI S_ 32 0#32)) reduceWindows_S64_S64_w64s1p63_0 h_S_

/-- Whether an expert's rows end at a block's start or before. -/
def ends (s : IVec S64 32) : IVec S608x64 1 :=
  cmpi .sle (broadcastInDim S608x64 ![0, 1] bcast_S1x64_S608x64_0_1 (broadcastInDim S1x64 ![1] bcast_S64_S1x64_1 s))
      (broadcastInDim S608x64 ![0, 1] bcast_S608x1_S608x64_0_1 (broadcastInDim S608x1 ![0] bcast_S608_S608x1_0
        (muli (iotaInDim S608 32 0) (all608 (constantI S_ 32 256#32)))))

/-- Each block's expert. -/
def bexp (s : IVec S64 32) : IVec S608 32 :=
  minsi (Host.reduce IntOp.addi (extui 32 (ends s) natLt_1_32) (constantI S_ 32 0#32) reducesTo_S608x64_S608_d1 h_S_)
    (all608 (constantI S_ 32 63#32))

/-- The number of blocks in use. -/
def nused (s : IVec S64 32) : IVec S_ 32 :=
  fdiv (shapeCast S_ (extractStridedSlice S1 ![63] s slices_S64_S1_63) shapeCasts_S1_S_) (constantI S_ 32 256#32)

variable (m : (ℓ : Loc nD τ sig) → Buf (Elt F) ℓ)

set_option maxHeartbeats 4000000 in
/-- The first table holds each block's expert. -/
theorem V21 (c : Dev nD) : (V m c main_v21 : IVec S608 32) = bexp (cum (m (c, Proc.tc.devRef main_arg0))) := by
  show StableHlo.after _ _ _ = _
  simp only [V, hostOps0, hostOps0_1, hostOps0_2, hostOps0_3, hostOps0_4, hostOps0_5, hostOps0_6, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

set_option maxHeartbeats 4000000 in
/-- The second table holds the number of blocks in use. -/
theorem V25 (c : Dev nD) : (V m c main_v25 : IVec S1 32) = shapeCast S1 (nused (cum (m (c, Proc.tc.devRef main_arg0)))) shapeCasts_S_S1 := by
  show StableHlo.after _ _ _ = _
  simp only [V, hostOps0, hostOps0_1, hostOps0_2, hostOps0_3, hostOps0_4, hostOps0_5, hostOps0_6, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

set_option maxHeartbeats 4000000 in
/-- The gate weights that the call reads are the cast argument. -/
theorem V26 (c : Dev nD) : (V m c main_v26 : FVec F S64x1024x256 .bf16) = truncf .bf16 (m (c, Proc.tc.devRef main_arg2) : FVec F S64x1024x256 .f32) bitsLt_bf16_f32 := by
  show StableHlo.after _ _ _ = _
  simp only [V, hostOps0, hostOps0_1, hostOps0_2, hostOps0_3, hostOps0_4, hostOps0_5, hostOps0_6, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

set_option maxHeartbeats 4000000 in
/-- The up weights that the call reads are the cast argument. -/
theorem V27 (c : Dev nD) : (V m c main_v27 : FVec F S64x1024x256 .bf16) = truncf .bf16 (m (c, Proc.tc.devRef main_arg3) : FVec F S64x1024x256 .f32) bitsLt_bf16_f32 := by
  show StableHlo.after _ _ _ = _
  simp only [V, hostOps0, hostOps0_1, hostOps0_2, hostOps0_3, hostOps0_4, hostOps0_5, hostOps0_6, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

set_option maxHeartbeats 4000000 in
/-- The down weights that the call reads are the cast argument. -/
theorem V28 (c : Dev nD) : (V m c main_v28 : FVec F S64x256x1024 .bf16) = truncf .bf16 (m (c, Proc.tc.devRef main_arg4) : FVec F S64x256x1024 .f32) bitsLt_bf16_f32 := by
  show StableHlo.after _ _ _ = _
  simp only [V, hostOps0, hostOps0_1, hostOps0_2, hostOps0_3, hostOps0_4, hostOps0_5, hostOps0_6, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

end Cert.Exp

end
-- ==== Proof.ExpOk.lean ====
/- The experts the table names exist, and the frame claims of the experts' program. -/
module

public import proofs.«01_k».proof.Proof.ExpHost
public import Idealize.ShloMosaic.PureOps.Reduce

@[expose] public section

set_option maxRecDepth 16384

noncomputable section

namespace Cert.Exp

open Idealize.ShloMosaic Idealize.ShloMosaic.TcCoe Idealize.SL.Sem
open Cert.ExpertsIdeal Cert.ExpertsIdeal.Gen

variable {F : FTy → Type} [FloatOps F]

/-- A sum of zero and one words counts at most its terms. -/
theorem count_le {n : ℕ} (f : Fin n → BitVec 1) (s : Finset (Fin n)) :
    (s.fold IntOp.addi 0#32 fun k => (f k).setWidth 32).toNat ≤ s.card := by
  induction s using Finset.induction_on with
  | empty => exact Nat.le_refl 0
  | insert a s ha ih =>
    rw [Finset.fold_insert ha, Finset.card_insert_of_notMem ha]
    show ((f a).setWidth 32 + _).toNat ≤ _
    rw [BitVec.toNat_add, BitVec.toNat_setWidth]
    have := (f a).isLt
    refine (Nat.mod_le _ _).trans ?_
    have : (f a).toNat % 2 ^ 32 ≤ 1 := (Nat.mod_le _ _).trans (by omega)
    omega

/-- The lesser of a small count and 63 is at most 63. -/
theorem min_le (a : BitVec 32) (h : a.toNat ≤ 64) : (IntOp.minsi a 63#32).toNat ≤ 63 := by
  unfold IntOp.minsi
  split
  · rename_i h'
    have e : a.toInt = a.toNat := BitVec.toInt_eq_toNat_of_lt (by omega)
    rw [BitVec.slt, e] at h'
    have h2 := of_decide_eq_true h'
    have e2 : (63#32 : BitVec 32).toInt = 63 := by decide
    omega
  · decide

/-- A block's expert is one of the 64. -/
theorem bexp_le (s : IVec S64 32) (j : S608.Idx) : (bexp s j).toNat ≤ 63 := by
  have h : S608x64.Reduces [1] S608 := by decide
  have e := congrArg BitVec.toNat (Host.reduce_eq_fold_single IntOp.addi (extui 32 (ends s) natLt_1_32) (constantI S_ 32 0#32) reducesTo_S608x64_S608_d1 h h_S_ j)
  have e1 : (Finset.univ.fold IntOp.addi 0#32 fun k => (ends s (h.lift j k)).setWidth 32).toNat ≤ 64 :=
    (count_le (fun k => ends s (h.lift j k)) Finset.univ).trans (Nat.le_of_eq (Finset.card_fin _))
  have e2 := e.trans_le e1
  have e3 : bexp s j = IntOp.minsi (Host.reduce IntOp.addi (extui 32 (ends s) natLt_1_32) (constantI S_ 32 0#32) reducesTo_S608x64_S608_d1 h_S_ j) 63#32 := rfl
  rw [e3]
  exact min_le _ e2

variable (m : (ℓ : Loc nD τ sig) → Buf (Elt F) ℓ) (ρ : Dev nD → PrngReg)

/-- Every block's expert is one of the 64. -/
theorem tbl_le (y : S608.Idx) : ((V m (0 : Dev nD) main_v21 : IVec S608 32) y).toNat ≤ 63 := by
  rw [V21]; exact bexp_le _ y

/-- Tables that name experts put every window's block in its array. -/
theorem ok_of (pf : pre0.Contents (Elt F)) (h : ∀ y : S608.Idx, BitVec.toNat (w := 32) (pf 0 y) ≤ 63) : ok0 pf := by
  refine ⟨fun i => ?_, fun i => ?_, fun i => ?_⟩
  · refine ⟨fun a => ?_, .inr (.inr ⟨by decide, rfl, rfl, rfl⟩)⟩
    match a with
    | 0 => exact (Nat.mul_one _).trans_le (Nat.succ_le_succ (h _))
    | 1 => exact Nat.le_of_eq (congrArg (· * 1024) (Nat.zero_add 1) |>.trans (Nat.one_mul 1024))
    | 2 => exact Nat.le_of_eq (congrArg (· * 256) (Nat.zero_add 1) |>.trans (Nat.one_mul 256))
  · refine ⟨fun a => ?_, .inr (.inr ⟨by decide, rfl, rfl, rfl⟩)⟩
    match a with
    | 0 => exact (Nat.mul_one _).trans_le (Nat.succ_le_succ (h _))
    | 1 => exact Nat.le_of_eq (congrArg (· * 1024) (Nat.zero_add 1) |>.trans (Nat.one_mul 1024))
    | 2 => exact Nat.le_of_eq (congrArg (· * 256) (Nat.zero_add 1) |>.trans (Nat.one_mul 256))
  · refine ⟨fun a => ?_, .inr (.inr ⟨by decide, rfl, rfl, rfl⟩)⟩
    match a with
    | 0 => exact (Nat.mul_one _).trans_le (Nat.succ_le_succ (h _))
    | 1 => exact Nat.le_of_eq (congrArg (· * 256) (Nat.zero_add 1) |>.trans (Nat.one_mul 256))
    | 2 => exact Nat.le_of_eq (congrArg (· * 1024) (Nat.zero_add 1) |>.trans (Nat.one_mul 1024))

/-- The tables are admissible, for every memory. -/
theorem ok : Ok m := ok_of (tbl m) (tbl_le m)

/-- The run: each array at what its windows leave, the arguments as they were, every counter at zero. -/
theorem run : θ_run defs (onTc (τ := τ) (main (F := F))) ⟨m, fun _ => 0, ρ⟩ (fun r => (∀ c : Dev nD,
      r.2.mem ((c.tc : Thread nD τ).loc main_v29) = (dats m (ok m) 0 c).arrAt 4 (cfgM m (ok m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨(h.1 c).1 4,
      ((h.1 c).2 main_arg0 (by decide : main_arg0 ∈ Pipeline.restRefs sig spec0)).trans (V_main_arg0 m c),
      ((h.1 c).1 0).trans (((dats m (ok m) 0 c).arrAt_in 0 rfl _).trans (V_main_arg1 m c)),
      ((h.1 c).2 main_arg2 (by decide : main_arg2 ∈ Pipeline.restRefs sig spec0)).trans (V_main_arg2 m c),
      ((h.1 c).2 main_arg3 (by decide : main_arg3 ∈ Pipeline.restRefs sig spec0)).trans (V_main_arg3 m c),
      ((h.1 c).2 main_arg4 (by decide : main_arg4 ∈ Pipeline.restRefs sig spec0)).trans (V_main_arg4 m c)⟩, h.2⟩)
    (run_main_quiescent m ρ (ok m))

end Cert.Exp

end
-- ==== Proof.ExpRef.lean ====
/- The experts' reference read at an index: its composed term cut into steps, each step's value at coordinates. -/
module

public import proofs.«01_k».proof.Proof.Gen.ExpertsReferenceIdeal.Run
public import proofs.«01_k».proof.Proof.ExpOk
public import proofs.«01_k».proof.Proof.RowMath

@[expose] public section

set_option maxRecDepth 16384

noncomputable section

namespace Cert.Exp.Ref

open Cert.ExpertsReferenceIdeal Cert.ExpertsReferenceIdeal.Gen Idealize.ShloMosaic Idealize.ShloMosaic.TcCoe

/-- Each block's expert as a row of start indices, a negative one counted from the end. -/
def wrap (e : IVec S608 32) : IVec S608x1 32 :=
  broadcastInDim S608x1 ![0] bcast_S608_S608x1_0
    (select (cmpi .slt e (broadcastInDim S608 ![] bcast_S_S608 (constantI S_ 32 0#32)))
      (addi e (broadcastInDim S608 ![] bcast_S_S608 (constantI S_ 32 64#32))) e)

/-- The blocks' rows through one of their experts' first two matrices. -/
def up (x : FVec Ideal S155648x1024 .f32) (w : FVec Ideal S64x1024x256 .f32) (e : IVec S608 32) : FVec Ideal S608x256x256 .f32 :=
  Host.dotGeneral dot_S608x256x1024_S608x1024x256_S608x256x256_2_1_1_2_0_0 none
    (shapeCast S608x256x1024 x shapeCasts_S155648x1024_S608x256x1024)
    (Host.gather gather_S64x1024x256_S608x1_S608x1024x256_12_0_n_n_0_1_11024256 w (wrap e))

/-- The gate's function. -/
def silu (h : FVec Ideal S608x256x256 .f32) : FVec Ideal S608x256x256 .f32 :=
  mulf h (Host.divf (broadcastInDim S608x256x256 ![] bcast_S_S608x256x256 (constant S_ .f32 0x3F800000#32))
    (addf (broadcastInDim S608x256x256 ![] bcast_S_S608x256x256 (constant S_ .f32 0x3F800000#32)) (Host.exp (Host.negf h))))

/-- The blocks' rows through their experts' last matrix. -/
def down (a : FVec Ideal S608x256x256 .f32) (w : FVec Ideal S64x256x1024 .f32) (e : IVec S608 32) : FVec Ideal S608x256x1024 .f32 :=
  Host.dotGeneral dot_S608x256x256_S608x256x1024_S608x256x1024_2_1_1_2_0_0 none a
    (Host.gather gather_S64x256x1024_S608x1_S608x256x1024_12_0_n_n_0_1_12561024 w (wrap e))

/-- The blocks in use kept, the others zero. -/
def out (n : IVec S_ 32) (y : FVec Ideal S608x256x1024 .f32) : FVec Ideal S155648x1024 .f32 :=
  shapeCast S155648x1024 (select (broadcastInDim S608x256x1024 ![0, 1, 2] bcast_S608x1x1_S608x256x1024_0_1_2
      (broadcastInDim S608x1x1 ![0] bcast_S608_S608x1x1_0 (cmpi .slt (iotaInDim S608 32 0) (broadcastInDim S608 ![] bcast_S_S608 n))))
    y (broadcastInDim S608x256x1024 ![] bcast_S_S608x256x1024 (constant S_ .f32 0x00000000#32))) shapeCasts_S608x256x1024_S155648x1024

set_option maxHeartbeats 4000000 in
/-- The reference's result is the composition of these steps. -/
theorem res_eq (m : (ℓ : Loc nD τ sig) → Buf (Elt Ideal) ℓ) (c : Dev nD) :
    Value.res_out0 m c = out (nused (cum (F := Ideal) (m (c.tc.loc main_arg0))))
      (down (mulf (silu (up (m (c.tc.loc main_arg1)) (m (c.tc.loc main_arg2)) (bexp (cum (F := Ideal) (m (c.tc.loc main_arg0))))))
        (up (m (c.tc.loc main_arg1)) (m (c.tc.loc main_arg3)) (bexp (cum (F := Ideal) (m (c.tc.loc main_arg0)))))) (m (c.tc.loc main_arg4))
        (bexp (cum (F := Ideal) (m (c.tc.loc main_arg0))))) := rfl

/-- The dimension numbers of a pick of one matrix for each start index. -/
def pick (N A B R : ℕ) (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- One matrix for each start index, at an index. -/
theorem pick_apply {α : Type} {N A B R : ℕ} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ 32) (b : Fin R) (k : Fin A) (f : Fin B) :
    Host.gather (pick N A B R wf) x idx (ix3 b k f) = x (ix3 ⟨min (idx (ix2 b 0)).toInt.toNat (N - 1), by omega⟩ k f) := by
  have hb : ∀ a, (pick N A B R wf).batchCoord (ix3 b k f) a = 0 := fun a => GatherDims.batchCoord_eq_zero _ _ _ (by exact List.not_mem_nil)
  have h0 : (pick N A B R wf).start (ix3 b k f) idx 0 = min (idx (ix2 b 0)).toInt.toNat (N - 1) := by
    have e : (pick N A B R wf).siIdx (ix3 b k f) ⟨0, Nat.one_pos⟩ = ix2 b 0 := by
      funext t
      match t with
      | 0 => rfl
      | 1 => rfl
    rw [← e]
    rfl
  have o0 : (pick N A B R wf).offCoord (ix3 b k f) 0 = 0 :=
    GatherDims.offCoord_eq_zero _ _ _ fun h => ((GatherDims.mem_sKept _ _).mp h).1 (List.mem_singleton.mpr rfl)
  have s1 : (pick N A B R wf).start (ix3 b k f) idx 1 = 0 := dif_neg (by decide : (1 : Fin 3) ∉ [(0 : Fin 3)])
  have s2 : (pick N A B R wf).start (ix3 b k f) idx 2 = 0 := dif_neg (by decide : (2 : Fin 3) ∉ [(0 : Fin 3)])
  have o1 : (pick N A B R wf).offCoord (ix3 b k f) 1 = k.val := rfl
  have o2 : (pick N A B R wf).offCoord (ix3 b k f) 2 = f.val := rfl
  refine congrArg x (funext fun a => Fin.ext ?_)
  match a with
  | 0 => exact (congrArg₂ (· + ·) (congrArg₂ (· + ·) h0 (hb 0)) o0)
  | 1 => exact (congrArg₂ (· + ·) (congrArg₂ (· + ·) s1 (hb 1)) o1).trans (by show 0 + 0 + k.val = k.val; omega)
  | 2 => exact (congrArg₂ (· + ·) (congrArg₂ (· + ·) s2 (hb 2)) o2).trans (by show 0 + 0 + f.val = f.val; omega)

/-- A block's start index is its expert. -/
theorem wrap_apply (e : IVec S608 32) (b : Fin 608) (h : (e (ix1 b)).toNat ≤ 63) : wrap e (ix2 b 0) = e (ix1 b) := by
  have h1 : wrap e (ix2 b 0) = Scalar.select (IntOp.cmpi .slt (e (ix1 b)) 0#32) (IntOp.addi (e (ix1 b)) 64#32) (e (ix1 b)) := by
    pointwise [wrap]
  have h2 : ¬ IntOp.cmpi .slt (e (ix1 b)) 0#32 = 1#1 := by
    rw [WordCmp.cmpi_slt_eq]
    have : (e (ix1 b)).toInt = (e (ix1 b)).toNat := BitVec.toInt_eq_toNat_of_lt (by omega)
    rw [this, show (0#32 : BitVec 32).toInt = 0 from rfl, decide_eq_false (by omega)]
    decide
  exact h1.trans (if_neg h2)

/-- The expert's index from its word. -/
theorem clamp_eq (w : BitVec 32) (h : w.toNat ≤ 63) : min w.toInt.toNat (64 - 1) = w.toNat := by
  rw [BitVec.toInt_eq_toNat_of_lt (by omega)]
  omega

/-- A product of a block's rows with its expert's matrix, at an index. -/
theorem up_apply (x w e) (b : Fin 608) (i : Fin 256) (f : Fin 256) (h : (e (ix1 b)).toNat ≤ 63) :
    up x w e (ix3 b i f) = ∑ k : Fin 1024, x (ix2 ⟨b.val * 256 + i.val, by omega⟩ k) * w (ix3 ⟨(e (ix1 b)).toNat, by omega⟩ k f) := by
  have hg : ∀ k, Host.gather gather_S64x1024x256_S608x1_S608x1024x256_12_0_n_n_0_1_11024256 w (wrap e) (ix3 b k f)
      = w (ix3 ⟨(e (ix1 b)).toNat, by omega⟩ k f) := fun k => by
    refine (pick_apply (by omega) _ w (wrap e) b k f).trans (congrArg (fun z => w (ix3 z k f)) (Fin.ext ?_))
    exact (congrArg (fun z : BitVec 32 => min z.toInt.toNat (64 - 1)) (wrap_apply e b h)).trans (clamp_eq _ h)
  have hd : ∀ g : FVec Ideal S608x1024x256 .f32, Host.dotGeneral dot_S608x256x1024_S608x1024x256_S608x256x256_2_1_1_2_0_0 none
      (shapeCast S608x256x1024 x shapeCasts_S155648x1024_S608x256x1024) g (ix3 b i f)
        = ∑ k : Fin 1024, x (ix2 ⟨b.val * 256 + i.val, by omega⟩ k) * g (ix3 b k f) := fun g => by
    pointwise []
  exact (hd _).trans (Finset.sum_congr rfl fun k _ => congrArg _ (hg k))

/-- The second product, at an index. -/
theorem down_apply (a w e) (b : Fin 608) (i : Fin 256) (d : Fin 1024) (h : (e (ix1 b)).toNat ≤ 63) :
    down a w e (ix3 b i d) = ∑ f : Fin 256, a (ix3 b i f) * w (ix3 ⟨(e (ix1 b)).toNat, by omega⟩ f d) := by
  have hg : ∀ f, Host.gather gather_S64x256x1024_S608x1_S608x256x1024_12_0_n_n_0_1_12561024 w (wrap e) (ix3 b f d)
      = w (ix3 ⟨(e (ix1 b)).toNat, by omega⟩ f d) := fun f => by
    refine (pick_apply (by omega) _ w (wrap e) b f d).trans (congrArg (fun z => w (ix3 z f d)) (Fin.ext ?_))
    exact (congrArg (fun z : BitVec 32 => min z.toInt.toNat (64 - 1)) (wrap_apply e b h)).trans (clamp_eq _ h)
  have hd : ∀ g : FVec Ideal S608x256x1024 .f32, Host.dotGeneral dot_S608x256x256_S608x256x1024_S608x256x1024_2_1_1_2_0_0 none a g (ix3 b i d)
        = ∑ f : Fin 256, a (ix3 b i f) * g (ix3 b f d) := fun g => by
    pointwise []
  exact (hd _).trans (Finset.sum_congr rfl fun f _ => congrArg _ (hg f))

/-- The gate's function of a number. -/
def gate (x : EReal) : EReal := x * Ideal.div 1 (1 + Ideal.exp (-x))

/-- The gate's function at an index. -/
theorem silu_apply (h : FVec Ideal S608x256x256 .f32) (j) : silu h j = gate (h j) := by
  have e : silu h j = h j * Ideal.div (Ideal.ofBits .f32 0x3F800000#32) (Ideal.ofBits .f32 0x3F800000#32 + Ideal.exp (-(h j))) := by
    pointwise [silu]
  rw [e, Cert.Attn.ofBits_1, gate]

/-- The blocks kept, at a row. -/
theorem out_apply (n y) (b : Fin 608) (i : Fin 256) (d : Fin 1024) :
    out n y (ix2 ⟨b.val * 256 + i.val, by omega⟩ d)
      = Scalar.select (IntOp.cmpi .slt (BitVec.ofNat 32 b.val) (n ix0)) (y (ix3 b i d)) 0 := by
  pointwise [out]

/-- A row through one expert. -/
def row (x : FVec Ideal S155648x1024 .f32) (wg wu : FVec Ideal S64x1024x256 .f32) (wd : FVec Ideal S64x256x1024 .f32)
    (e : Fin 64) (r : Fin 155648) (d : Fin 1024) : EReal :=
  ∑ f : Fin 256, gate (∑ k : Fin 1024, x (ix2 r k) * wg (ix3 e k f)) * (∑ k : Fin 1024, x (ix2 r k) * wu (ix3 e k f)) * wd (ix3 e f d)

/-- The reference's result as a function of the experts' counts, the rows and the experts' matrices. -/
def result (n : FVec Ideal S64x1 .f32) (x : FVec Ideal S155648x1024 .f32) (wg wu : FVec Ideal S64x1024x256 .f32) (wd : FVec Ideal S64x256x1024 .f32) :
    FVec Ideal S155648x1024 .f32 :=
  out (nused (cum n)) (down (mulf (silu (up x wg (bexp (cum n)))) (up x wu (bexp (cum n)))) wd (bexp (cum n)))

/-- The reference's result at a row. -/
theorem result_apply (n x wg wu wd) (b : Fin 608) (i : Fin 256) (d : Fin 1024) :
    result n x wg wu wd (ix2 ⟨b.val * 256 + i.val, by omega⟩ d)
      = Scalar.select (IntOp.cmpi .slt (BitVec.ofNat 32 b.val) (nused (cum n) ix0))
          (row x wg wu wd ⟨(bexp (cum n) (ix1 b)).toNat, Nat.lt_succ_of_le (bexp_le _ _)⟩ ⟨b.val * 256 + i.val, by omega⟩ d) 0 := by
  have h := bexp_le (cum n) (ix1 b)
  refine (out_apply _ _ b i d).trans (congrArg (fun z => Scalar.select _ z 0) ?_)
  refine (down_apply _ _ _ b i d h).trans (Finset.sum_congr rfl fun f _ => congrArg (· * _) ?_)
  exact congrArg₂ (· * ·) ((silu_apply _ _).trans (congrArg gate (up_apply x wg _ b i f h))) (up_apply x wu _ b i f h)

/-- A word's expert, named. -/
theorem fin_of (w : BitVec 32) (e : Fin 64) (h : w.toNat < 64) (h' : w.toNat = e.val) : (⟨w.toNat, h⟩ : Fin 64) = e := by
  obtain ⟨v, hv⟩ := e
  generalize w.toNat = n at h h'
  subst h'
  rfl

/-- The same with the expert named. -/
theorem result_at (n x wg wu wd) (b : Fin 608) (i : Fin 256) (d : Fin 1024) (e : Fin 64) (he : (bexp (cum n) (ix1 b)).toNat = e.val) :
    result n x wg wu wd (ix2 ⟨b.val * 256 + i.val, by omega⟩ d)
      = Scalar.select (IntOp.cmpi .slt (BitVec.ofNat 32 b.val) (nused (cum n) ix0)) (row x wg wu wd e ⟨b.val * 256 + i.val, by omega⟩ d) 0 := by
  rw [result_apply]
  exact congrArg (fun z => Scalar.select _ (row x wg wu wd z _ d) 0) (fin_of _ e _ he)

end Cert.Exp.Ref

end
-- ==== Proof.ExpVal.lean ====
/- The experts' kernel read at an index: the block a grid point computes, the blocks it reads as entries of the
   arguments, and the array the blocks cover. -/
module

public import proofs.«01_k».proof.Proof.ExpRef
public import Idealize.ShloMosaic.Lib.Pipeline.ValueKit
public import Idealize.ShloMosaic.Lib.Pipeline.Covers
public import Idealize.ShloMosaic.Lib.Pointwise

@[expose] public section

set_option maxRecDepth 16384

noncomputable section

namespace Cert.Exp

open Idealize.ShloMosaic Idealize.ShloMosaic.TcCoe Idealize.SL.Sem
open Cert.ExpertsIdeal Cert.ExpertsIdeal.Gen

/-! ## The block of a grid point -/

/-- The block's rows through one matrix. -/
def kup (x : FVec Ideal S256x1024 .f32) (w : FVec Ideal S1x1024x256 .bf16) : FVec Ideal S256x256 .f32 :=
  matmul dot_S256x1024_S1024x256_S256x256_1_0_0_1_n_n none (truncf .bf16 x bitsLt_bf16_f32)
    (shapeCast S1024x256 w shapeCasts_S1x1024x256_S1024x256) (constant S256x256 .f32 0x00000000#32)

/-- The gate's function of a block. -/
def ksilu (h : FVec Ideal S256x256 .f32) : FVec Ideal S256x256 .f32 :=
  mulf h (divf (broadcast S256x256 (Scalar.ofBits .f32 0x3F800000#32))
    (addf (broadcast S256x256 (Scalar.ofBits .f32 0x3F800000#32)) (exp (subf (broadcast S256x256 (Scalar.ofBits .f32 0x00000000#32)) h))))

/-- The block through the last matrix. -/
def kdown (a : FVec Ideal S256x256 .f32) (w : FVec Ideal S1x256x1024 .bf16) : FVec Ideal S256x1024 .f32 :=
  matmul dot_S256x256_S256x1024_S256x1024_1_0_0_1_n_n none (truncf .bf16 a bitsLt_bf16_f32)
    (shapeCast S256x1024 w shapeCasts_S1x256x1024_S256x1024) (constant S256x1024 .f32 0x00000000#32)

/-- The block's value from its three products. -/
theorem pay1_eq (x wg wu wd) : k0_pay1 (F := Ideal) x wg wu wd = kdown (mulf (ksilu (kup x wg)) (kup x wu)) wd := rfl

/-- A first product at an index. -/
theorem kup_apply (x w) (i f : Fin 256) : kup x w (ix2 i f) = ∑ k : Fin 1024, x (ix2 i k) * w (ix3 0 k f) := by
  pointwise [kup]

/-- The last product at an index. -/
theorem kdown_apply (a w) (i : Fin 256) (d : Fin 1024) : kdown a w (ix2 i d) = ∑ f : Fin 256, a (ix2 i f) * w (ix3 0 f d) := by
  pointwise [kdown]

/-- The gate at an index. -/
theorem ksilu_apply (h : FVec Ideal S256x256 .f32) (j) : ksilu h j = Ref.gate (h j) := by
  have e : ksilu h j = h j * Ideal.div (Ideal.ofBits .f32 0x3F800000#32)
      (Ideal.ofBits .f32 0x3F800000#32 + Ideal.exp (Ideal.ofBits .f32 0x00000000#32 - h j)) := rfl
  have z : Ideal.ofBits .f32 0x00000000#32 = 0 := by simp [Ideal.ofBits, Ideal.ieee]
  rw [e, Cert.Attn.ofBits_1, z, zero_sub, Ref.gate]

/-- The block's entry, from its rows and its expert's matrices. -/
theorem pay1_apply (x : FVec Ideal S256x1024 .f32) (wg wu : FVec Ideal S1x1024x256 .bf16) (wd : FVec Ideal S1x256x1024 .bf16) (i : Fin 256) (d : Fin 1024) :
    k0_pay1 (F := Ideal) x wg wu wd (ix2 i d) = ∑ f : Fin 256, Ref.gate (∑ k : Fin 1024, x (ix2 i k) * wg (ix3 0 k f))
      * (∑ k : Fin 1024, x (ix2 i k) * wu (ix3 0 k f)) * wd (ix3 0 f d) := by
  rw [pay1_eq]
  refine (kdown_apply _ _ i d).trans (Finset.sum_congr rfl fun f _ => congrArg (· * _) ?_)
  exact congrArg₂ (· * ·) ((ksilu_apply _ _).trans (congrArg Ref.gate (kup_apply x wg i f))) (kup_apply x wu i f)

/-! ## The blocks as entries of the arrays -/

/-- A block's number as a word. -/
theorem toNat_608 : ∀ b < 608, (BitVec.ofNat 32 b).toNat = b := fun b hb => by rw [BitVec.toNat_ofNat]; exact Nat.mod_eq_of_lt (by omega)

/-- The number of a grid point's block. -/
abbrev bl (i : grid0.Coords) : Fin 608 := i 0

/-- The word a table holds of a grid point. -/
abbrev wordAt (pf : pre0.Contents (Elt Ideal)) (i : grid0.Coords) : BitVec 32 := (pf 0 : S608.Idx → BitVec 32) (ix1 (bl i))

/-- The word the table holds for a block. -/
theorem at_eq (pf : pre0.Contents (Elt Ideal)) (i : grid0.Coords) :
    pf.at 0 (Rect.unit (s := S608) ![(Scalar.indexCast (BitVec.ofNat 32 (i 0).val) : Index).toNat] S1.size (k0_off1_inb i)) numel1_S1 = wordAt pf i := by
  refine congrArg (pf 0 : S608.Idx → BitVec 32) (funext fun (x : Fin 1) => Fin.ext ?_)
  match x with
  | 0 =>
    show (BitVec.ofNat 32 (i 0).val).toNat + 1 * 0 = (i 0).val
    exact toNat_608 _ (i 0).isLt

/-- An axis the block keeps whole. -/
theorem zero_off (n z : ℕ) : (0#32 : BitVec 32).toNat * n + z = z := by simp
/-- The expert's axis. -/
theorem word_off {w w' : BitVec 32} (h : w = w') : w.toNat * 1 + 0 = w'.toNat := by rw [h]; omega

variable (a : (pcfg0 (F := Ideal)).Adm)

/-- Where the block's rows lie in the array. -/
theorem emb0 (t : Fin (cfg0 a).N) (i : Fin 256) (k : Fin 1024) : ((((cfg0 a).win 0).blk t).view.emb (ix2 i k : S256x1024.Idx))
    = (ix2 ⟨(bl (grid0.coords t)).val * 256 + i.val, by omega⟩ k : S155648x1024.Idx) := by
  refine funext fun (x : Fin 2) => Fin.ext ?_
  refine (Pipeline.Window.rect_emb_val ((cfg0 a).win 0) t (ix2 i k : S256x1024.Idx) x rfl).trans ?_
  match x with
  | 0 => exact congrArg (· * 256 + i.val) (toNat_608 _ (bl (grid0.coords t)).isLt)
  | 1 => exact zero_off 1024 k.val

/-- Where the block's results lie in the array. -/
theorem emb4 (t : Fin (cfg0 a).N) (i : Fin 256) (k : Fin 1024) : ((((cfg0 a).win 4).blk t).view.emb (ix2 i k : S256x1024.Idx))
    = (ix2 ⟨(bl (grid0.coords t)).val * 256 + i.val, by omega⟩ k : S155648x1024.Idx) := by
  refine funext fun (x : Fin 2) => Fin.ext ?_
  refine (Pipeline.Window.rect_emb_val ((cfg0 a).win 4) t (ix2 i k : S256x1024.Idx) x rfl).trans ?_
  match x with
  | 0 => exact congrArg (· * 256 + i.val) (toNat_608 _ (bl (grid0.coords t)).isLt)
  | 1 => exact zero_off 1024 k.val

/-- Where the expert's gate weights lie. -/
theorem emb1 (t : Fin (cfg0 a).N) (e : Fin 64) (he : (wordAt a.1 (grid0.coords t)).toNat = e.val) (k : Fin 1024) (f : Fin 256) :
    ((((cfg0 a).win 1).blk t).view.emb (ix3 0 k f : S1x1024x256.Idx)) = (ix3 e k f : S64x1024x256.Idx) := by
  refine funext fun (x : Fin 3) => Fin.ext ?_
  refine (Pipeline.Window.rect_emb_val ((cfg0 a).win 1) t (ix3 0 k f : S1x1024x256.Idx) x rfl).trans ?_
  match x with
  | 0 =>
    have e1 := (word_off (at_eq a.1 (grid0.coords t))).trans he
    exact e1
  | 1 => exact zero_off 1024 k.val
  | 2 => exact zero_off 256 f.val

/-- Where the expert's up weights lie. -/
theorem emb2 (t : Fin (cfg0 a).N) (e : Fin 64) (he : (wordAt a.1 (grid0.coords t)).toNat = e.val) (k : Fin 1024) (f : Fin 256) :
    ((((cfg0 a).win 2).blk t).view.emb (ix3 0 k f : S1x1024x256.Idx)) = (ix3 e k f : S64x1024x256.Idx) := by
  refine funext fun (x : Fin 3) => Fin.ext ?_
  refine (Pipeline.Window.rect_emb_val ((cfg0 a).win 2) t (ix3 0 k f : S1x1024x256.Idx) x rfl).trans ?_
  match x with
  | 0 =>
    have e1 := (word_off (at_eq a.1 (grid0.coords t))).trans he
    exact e1
  | 1 => exact zero_off 1024 k.val
  | 2 => exact zero_off 256 f.val

/-- Where the expert's down weights lie. -/
theorem emb3 (t : Fin (cfg0 a).N) (e : Fin 64) (he : (wordAt a.1 (grid0.coords t)).toNat = e.val) (f : Fin 256) (d : Fin 1024) :
    ((((cfg0 a).win 3).blk t).view.emb (ix3 0 f d : S1x256x1024.Idx)) = (ix3 e f d : S64x256x1024.Idx) := by
  refine funext fun (x : Fin 3) => Fin.ext ?_
  refine (Pipeline.Window.rect_emb_val ((cfg0 a).win 3) t (ix3 0 f d : S1x256x1024.Idx) x rfl).trans ?_
  match x with
  | 0 =>
    have e1 := (word_off (at_eq a.1 (grid0.coords t))).trans he
    exact e1
  | 1 => exact zero_off 256 f.val
  | 2 => exact zero_off 1024 d.val

/-- The number of blocks along an axis. -/
theorem nblk_of {x y z n : ℕ} (u v : ℕ) (h : x = u) (h' : y = v) (h'' : z = v) (e : (u + v - 1) / v = n) : (x + y - 1) / z = n := by
  rw [h, h', h'']; exact e

/-- The number of result blocks along each axis. -/
theorem nblk4 (x : Fin 2) : ((cfg0 a).win 4).nblk x = ![608, 1] x := by
  match x with
  | 0 => exact nblk_of 155648 256 rfl rfl rfl rfl
  | 1 => exact nblk_of 1024 1024 rfl rfl rfl rfl

/-- The result blocks cover the array. -/
theorem covers4 : ((cfg0 a).win 4).Covers :=
  ((cfg0 a).win 4).covers_of_indexMap_surj rfl (by show ∀ x : Fin 2, 0 < S256x1024.size x; decide) fun β =>
    ⟨fun (x : Fin 1) => match x with
      | 0 => (⟨(β (0 : Fin 2)).val, (β (0 : Fin 2)).isLt.trans_le (nblk4 a 0).le⟩ : Fin 608), fun (x : Fin 2) => by
      match x with
      | 0 => exact toNat_608 _ ((β (0 : Fin 2)).isLt.trans_le (nblk4 a 0).le)
      | 1 =>
        have h : (β (1 : Fin 2)).val < 1 := (β (1 : Fin 2)).isLt.trans_le (nblk4 a 1).le
        exact (rfl : (0#32 : BitVec 32).toNat = 0).trans (Nat.lt_one_iff.mp h).symm⟩

/-- Whether a block is in use, as the body computes it. -/
theorem cond1_iff (i : grid0.Coords) (v : BitVec 32) : k0_cond1 i v = 1#1 ↔ IntOp.cmpi .slt (BitVec.ofNat 32 (bl i).val) v = 1#1 := by
  have h : ∀ b : BitVec 1, IntOp.cmpi .ne (b.setWidth 32) 0#32 = 1#1 ↔ b = 1#1 := by decide
  exact h _

/-! ## The array -/

variable (m : (ℓ : Loc nD τ sig) → Buf (Elt Ideal) ℓ) (c : Dev nD)

/-! The arguments the blocks are read from. -/
abbrev gN : FVec Ideal S64x1 .f32 := m (c, Proc.tc.devRef main_arg0)
/-- The rows. -/
abbrev gX : FVec Ideal S155648x1024 .f32 := m (c, Proc.tc.devRef main_arg1)
/-- The gate weights. -/
abbrev gG : FVec Ideal S64x1024x256 .f32 := m (c, Proc.tc.devRef main_arg2)
/-- The up weights. -/
abbrev gU : FVec Ideal S64x1024x256 .f32 := m (c, Proc.tc.devRef main_arg3)
/-- The down weights. -/
abbrev gD : FVec Ideal S64x256x1024 .f32 := m (c, Proc.tc.devRef main_arg4)

/-- The narrowing to bf16 of exact numbers. -/
theorem tr_eq {s : Shape} (x : FVec Ideal s .f32) : (truncf .bf16 x bitsLt_bf16_f32 : s.Idx → EReal) = x := rfl

/-- The cast gate weights. -/
theorem T26 : (V m c main_v26 : S64x1024x256.Idx → EReal) = truncf .bf16 (gG m c) bitsLt_bf16_f32 := V26 m c
/-- The gate weights that the call reads, at an index. -/
theorem W26 (k : S64x1024x256.Idx) : (V m c main_v26 : S64x1024x256.Idx → EReal) k = gG m c k := by
  have h := T26 m c
  rw [tr_eq] at h
  rw [h]
/-- The cast up weights. -/
theorem T27 : (V m c main_v27 : S64x1024x256.Idx → EReal) = truncf .bf16 (gU m c) bitsLt_bf16_f32 := V27 m c
/-- The up weights that the call reads, at an index. -/
theorem W27 (k : S64x1024x256.Idx) : (V m c main_v27 : S64x1024x256.Idx → EReal) k = gU m c k := by
  have h := T27 m c
  rw [tr_eq] at h
  rw [h]
/-- The cast down weights. -/
theorem T28 : (V m c main_v28 : S64x256x1024.Idx → EReal) = truncf .bf16 (gD m c) bitsLt_bf16_f32 := V28 m c
/-- The down weights that the call reads, at an index. -/
theorem W28 (k : S64x256x1024.Idx) : (V m c main_v28 : S64x256x1024.Idx → EReal) k = gD m c k := by
  have h := T28 m c
  rw [tr_eq] at h
  rw [h]

/-- The rows of a grid point's block. -/
theorem read0 (hO : Ok m) (t : Fin (cfgM m hO).N) (i : Fin 256) (k : Fin 1024) :
    (iblk m hO c 0 t : FVec Ideal S256x1024 .f32) (ix2 i k) = gX m c (ix2 ⟨(bl (grid0.coords t)).val * 256 + i.val, by omega⟩ k) :=
  (congrArg (V m c main_arg1 : S155648x1024.Idx → EReal) (emb0 (adm m hO) t i k)).trans (congrFun (V_main_arg1 m c) _)

/-- The block of gate weights, read from the argument. -/
theorem blk1 (hO : Ok m) (t : Fin (cfgM m hO).N) (e : Fin 64) (he : (wordAt (adm m hO).1 (grid0.coords t)).toNat = e.val) (k : Fin 1024) (f : Fin 256) :
    (iblk m hO c 1 t : FVec Ideal S1x1024x256 .bf16) (ix3 0 k f) = (V m c main_v26 : S64x1024x256.Idx → EReal) (ix3 e k f) :=
  congrArg (V m c main_v26 : S64x1024x256.Idx → EReal) (emb1 (adm m hO) t e he k f)

/-- The first matrix of a grid point's expert. -/
theorem read1 (hO : Ok m) (t : Fin (cfgM m hO).N) (e : Fin 64) (he : (wordAt (adm m hO).1 (grid0.coords t)).toNat = e.val) (k : Fin 1024) (f : Fin 256) :
    (iblk m hO c 1 t : FVec Ideal S1x1024x256 .bf16) (ix3 0 k f) = gG m c (ix3 e k f) := by
  have h1 := blk1 m c hO t e he k f
  have h2 := W26 m c (ix3 e k f)
  rw [h1, h2]

/-- The block of up weights, read from the argument. -/
theorem blk2 (hO : Ok m) (t : Fin (cfgM m hO).N) (e : Fin 64) (he : (wordAt (adm m hO).1 (grid0.coords t)).toNat = e.val) (k : Fin 1024) (f : Fin 256) :
    (iblk m hO c 2 t : FVec Ideal S1x1024x256 .bf16) (ix3 0 k f) = (V m c main_v27 : S64x1024x256.Idx → EReal) (ix3 e k f) :=
  congrArg (V m c main_v27 : S64x1024x256.Idx → EReal) (emb2 (adm m hO) t e he k f)

/-- The second matrix of a grid point's expert. -/
theorem read2 (hO : Ok m) (t : Fin (cfgM m hO).N) (e : Fin 64) (he : (wordAt (adm m hO).1 (grid0.coords t)).toNat = e.val) (k : Fin 1024) (f : Fin 256) :
    (iblk m hO c 2 t : FVec Ideal S1x1024x256 .bf16) (ix3 0 k f) = gU m c (ix3 e k f) := by
  have h1 := blk2 m c hO t e he k f
  have h2 := W27 m c (ix3 e k f)
  rw [h1, h2]

/-- The block of down weights, read from the argument. -/
theorem blk3 (hO : Ok m) (t : Fin (cfgM m hO).N) (e : Fin 64) (he : (wordAt (adm m hO).1 (grid0.coords t)).toNat = e.val) (f : Fin 256) (d : Fin 1024) :
    (iblk m hO c 3 t : FVec Ideal S1x256x1024 .bf16) (ix3 0 f d) = (V m c main_v28 : S64x256x1024.Idx → EReal) (ix3 e f d) :=
  congrArg (V m c main_v28 : S64x256x1024.Idx → EReal) (emb3 (adm m hO) t e he f d)

/-- The last matrix of a grid point's expert. -/
theorem read3 (hO : Ok m) (t : Fin (cfgM m hO).N) (e : Fin 64) (he : (wordAt (adm m hO).1 (grid0.coords t)).toNat = e.val) (f : Fin 256) (d : Fin 1024) :
    (iblk m hO c 3 t : FVec Ideal S1x256x1024 .bf16) (ix3 0 f d) = gD m c (ix3 e f d) := by
  have h1 := blk3 m c hO t e he f d
  have h2 := W28 m c (ix3 e f d)
  rw [h1, h2]

/-- The first table's contents. -/
theorem tbl0 : (tbl m 0 : S608.Idx → BitVec 32) = (V m 0 main_v21 : IVec S608 32) := rfl

/-- The first table from the counts. -/
theorem tbl0_eq : (tbl m 0 : S608.Idx → BitVec 32) = bexp (cum (F := Ideal) (gN m 0)) := (tbl0 m).trans (V21 m 0)

/-- A table's word is its contents at the grid point. -/
theorem word_of (pf : pre0.Contents (Elt Ideal)) (b : IVec S608 32) (h : (pf 0 : S608.Idx → BitVec 32) = b) (i : grid0.Coords) :
    wordAt pf i = b (ix1 (bl i)) := by
  subst h; rfl

/-- The admissible tables are the tables. -/
theorem adm_val (hO : Ok m) : (adm m hO).1 = tbl m := rfl

/-- The word the table holds of a grid point is its block's expert. -/
theorem word_eq (hO : Ok m) (i : grid0.Coords) : wordAt (adm m hO).1 i = bexp (cum (F := Ideal) (gN m 0)) (ix1 (bl i)) := by
  rw [adm_val]
  exact word_of (tbl m) _ (tbl0_eq m) i

/-- A small word is an expert's number. -/
theorem ex64 (w : BitVec 32) (h : w.toNat ≤ 63) : ∃ e : Fin 64, w.toNat = e.val := ⟨⟨w.toNat, by omega⟩, rfl⟩

/-- The number of blocks in use. -/
theorem nu_val : nu m = nused (cum (F := Ideal) (gN m 0)) Idealize.ShloMosaic.ix0 := by
  refine (congrFun (V25 m 0) _).trans ?_
  exact congrArg (nused (cum (F := Ideal) (gN m 0))) (funext fun x : Fin 0 => x.elim0)

/-- The entry of a grid point's block in use. -/
theorem used_apply (hO : Ok m) (t : Fin (cfgM m hO).N) (e : Fin 64) (he : (wordAt (adm m hO).1 (grid0.coords t)).toNat = e.val) (i : Fin 256) (d : Fin 1024) :
    k0_pay1 (F := Ideal) (iblk m hO c 0 t) (iblk m hO c 1 t) (iblk m hO c 2 t) (iblk m hO c 3 t) (ix2 i d)
      = Ref.row (gX m c) (gG m c) (gU m c) (gD m c) e ⟨(bl (grid0.coords t)).val * 256 + i.val, by omega⟩ d := by
  refine (pay1_apply _ _ _ _ i d).trans ?_
  refine Finset.sum_congr rfl fun f _ => congrArg₂ (· * ·) (congrArg₂ (· * ·) (congrArg Ref.gate ?_) ?_) (read3 m c hO t e he f d)
  · exact Finset.sum_congr rfl fun k _ => congrArg₂ (· * ·) (read0 m c hO t i k) (read1 m c hO t e he k f)
  · exact Finset.sum_congr rfl fun k _ => congrArg₂ (· * ·) (read0 m c hO t i k) (read2 m c hO t e he k f)

/-- The entry of a grid point's block. -/
theorem outB_apply (hO : Ok m) (t : Fin (cfgM m hO).N) (i : Fin 256) (d : Fin 1024) :
    outB m hO 0 t (ix2 i d) = Ref.result (gN m 0) (gX m 0) (gG m 0) (gU m 0) (gD m 0)
      (ix2 ⟨(bl (grid0.coords t)).val * 256 + i.val, by omega⟩ d) := by
  obtain ⟨e, hv⟩ := ex64 _ (bexp_le (cum (F := Ideal) (gN m 0)) (ix1 (bl (grid0.coords t))))
  have he := (congrArg BitVec.toNat (word_eq m hO (grid0.coords t))).trans hv
  refine Eq.trans ?_ (Ref.result_at (gN m 0) (gX m 0) (gG m 0) (gU m 0) (gD m 0) (bl (grid0.coords t)) i d e hv).symm
  have hc := cond1_iff (grid0.coords t) (nu m)
  rw [nu_val] at hc
  unfold outB
  rw [nu_val]
  by_cases hu : IntOp.cmpi .slt (BitVec.ofNat 32 (bl (grid0.coords t)).val) (nused (cum (F := Ideal) (gN m 0)) Idealize.ShloMosaic.ix0) = 1#1
  · rw [if_pos (hc.mpr hu)]
    refine Eq.trans ?_ (if_pos hu).symm
    exact used_apply m 0 hO t e he i d
  · rw [if_neg fun h => hu (hc.mp h)]
    refine Eq.trans ?_ (if_neg hu).symm
    show Ideal.ofBits .f32 0x00000000#32 = 0
    simp [Ideal.ofBits, Ideal.ieee]

/-- The kernel's array is the reference's. -/
theorem arr_eq (hO : Ok m) : ((dats m hO 0 c).arrAt 4 (cfgM m hO).N : FVec Ideal S155648x1024 .f32)
    = Ref.result (gN m c) (gX m c) (gG m c) (gU m c) (gD m c) := by
  obtain rfl : c = 0 := Subsingleton.elim _ _
  refine (dats m hO 0 0).arrAt_eq_of_covers 4 _ (covers4 (adm m hO)) fun t hf y => ?_
  blk_simp
  rw [after4]
  obtain ⟨i, d, rfl⟩ : ∃ (i : Fin 256) (d : Fin 1024), y = (ix2 i d : S256x1024.Idx) := ⟨y (0 : Fin 2), y (1 : Fin 2), eq_ix2 y⟩
  refine (outB_apply m hO t i d).trans ?_
  exact (congrArg (Ref.result (gN m 0) (gX m 0) (gG m 0) (gU m 0) (gD m 0)) (emb4 (adm m hO) t i d)).symm

end Cert.Exp

end
-- ==== Proof.ExpClaim.lean ====
/- The experts' claims: the frames of the kernel and of the reference, and equal results. -/
module

public import proofs.«01_k».proof.Proof.ExpVal
public import proofs.«01_k».proof.Proof.Gen.Experts
public import proofs.«01_k».proof.Proof.Gen.ExpertsReferenceIdeal
public import proofs.«01_k».proof.Defs
public import Idealize.ShloMosaic.Lib.Claim
public import Idealize.ShloMosaic.Lib.Quiescent

@[expose] public section

set_option maxRecDepth 16384

noncomputable section

namespace Cert.Exp

open Idealize.ShloMosaic Idealize.ShloMosaic.TcCoe Idealize.SL.Sem

section
open Cert.ExpertsIdeal

/-- Over either arithmetic the program keeps its arguments and ends with every semaphore counter at zero. -/
def Keeps (F : FTy → Type) [FloatOps F] : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

/-- From the run. -/
theorem keeps (F : FTy → Type) [FloatOps F] : Keeps F :=
  fun m ρ _ => (θ_run defs _ _).mono (fun _ h => ⟨fun c => (h.1 c).2, h.2⟩) (run m ρ)

end

/-- The kernel's frame speaks of the same text over its own arithmetic. -/
theorem kernel_says : Cert.quiescent_Experts (hExperts := Cert.Experts.Gen.facts) = Keeps Bits := by
  chain_rfl

/-- The kernel keeps its arguments and ends with every semaphore counter at zero. -/
theorem kernel_frame : Cert.quiescent_Experts (hExperts := Cert.Experts.Gen.facts) :=
  kernel_says.mpr (keeps Bits)

/-- The exact kernel keeps its arguments and ends with every semaphore counter at zero. -/
theorem ideal_frame : Cert.quiescent_ExpertsIdeal (hExpertsIdeal := Cert.ExpertsIdeal.Gen.facts) :=
  fun m ρ _ => keeps Ideal m ρ trivial

/-- The reference keeps its arguments and ends with every semaphore counter at zero. -/
theorem ref_frame : Cert.quiescent_ExpertsReferenceIdeal (hExpertsReferenceIdeal := Cert.ExpertsReferenceIdeal.Gen.facts) :=
  fun m ρ _ => (θ_run Cert.ExpertsReferenceIdeal.defs _ _).mono
    (fun r h => ⟨fun c => (h c).2, Idealize.ShloMosaic.sem_eq_zero_of_no_sems (by decide) r.2⟩)
    (Cert.ExpertsReferenceIdeal.Value.run (F := Ideal) m ρ)

/-- The kernel's result is the reference's. -/
theorem same : Cert.algebraic_ExpertsIdeal_ExpertsReferenceIdeal (hExpertsIdeal := Cert.ExpertsIdeal.Gen.facts)
    (hExpertsReferenceIdeal := Cert.ExpertsReferenceIdeal.Gen.facts) := by
  intro m ρ m' ρ' hpre hagree
  refine ⟨fun c => Ref.result (gN m c) (gX m c) (gG m c) (gU m c) (gD m c), ?_, ?_⟩
  · exact (θ_run Cert.ExpertsIdeal.defs _ _).mono (fun r h c => ⟨(h.1 c).1.trans (arr_eq m c (ok m)), (h.1 c).2⟩) (run (F := Ideal) m ρ)
  · refine (θ_run Cert.ExpertsReferenceIdeal.defs _ _).mono (fun r h c => ⟨(h c).1.trans ?_, (h c).2⟩) (Cert.ExpertsReferenceIdeal.Value.run (F := Ideal) m' ρ')
    refine (Ref.res_eq m' c).trans ?_
    obtain ⟨h0, h1, h2, h3, h4⟩ := hagree c
    rw [h0, h1, h2, h3, h4]
    rfl

end Cert.Exp

end
-- ==== Proof.lean ====
module

public import proofs.«01_k».proof.Proof.Gen.KernelIdeal.Value
public import proofs.«01_k».proof.Proof.Gen.ReferenceIdeal.Run
public import proofs.«01_k».proof.Defs
public import proofs.«01_k».proof.Proof.AttnClaim
public import proofs.«01_k».proof.Proof.ExpClaim
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Experts
public import proofs.«01_k».proof.Proof.Gen.ExpertsIdeal
public import proofs.«01_k».proof.Proof.Gen.ExpertsIdeal.Launch
public import proofs.«01_k».proof.Proof.Gen.ExpertsIdeal.Skeleton
public import proofs.«01_k».proof.Proof.Gen.ExpertsReferenceIdeal
public import proofs.«01_k».proof.Proof.Gen.ExpertsReferenceIdeal.Run
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts,
  Cert.Experts.Gen.facts, Cert.ExpertsIdeal.Gen.facts, Cert.ExpertsReferenceIdeal.Gen.facts, Cert.Attn.Fin3.facts,
  fun m ρ _ => Cert.Kernel.Gen.frame m ρ,
  fun m ρ _ => Cert.KernelIdeal.Gen.frame m ρ,
  fun m ρ _ => Cert.KernelIdeal.Gen.frame m ρ,
  Cert.Attn.ref_frame,
  fun m ρ _ => Cert.Attn.ref_frame m ρ trivial,
  Cert.Exp.kernel_frame,
  Cert.Exp.ideal_frame,
  Cert.Exp.ref_frame,
  trivial,
  Cert.Attn.same,
  trivial,
  Cert.Exp.same⟩

end Cert.Proof

end
